-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 2048]⟩ ⟨3, ![4, 512, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![512, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x2048 : Shape := ⟨3, ![1, 512, 2048]⟩
abbrev S512x512 : Shape := ⟨2, ![512, 512]⟩
abbrev S256x512 : Shape := ⟨2, ![256, 512]⟩
abbrev S6x256x512 : Shape := ⟨3, ![6, 256, 512]⟩
abbrev S6 : Shape := ⟨1, ![6]⟩
abbrev S_ : Shape := ⟨0, ![]⟩
abbrev S1x256x512 : Shape := ⟨3, ![1, 256, 512]⟩
abbrev S1x512x512 : Shape := ⟨3, ![1, 512, 512]⟩
abbrev S1 : Shape := ⟨1, ![1]⟩

abbrev nBuf : Space → Nat
  | .hbm => 2
  | .vmem => 9
  | .smem => 0
  | _ => 0

abbrev bufTy : (tb : Table) → Fin (tcTables nBuf tb) → BufTy
  | .hbm, ⟨0, _⟩ => ⟨S1x512x2048, .bf16⟩
  | .hbm, ⟨1, _⟩ => ⟨S512x512, .bf16⟩
  | .local _ .vmem, ⟨0, _⟩ => ⟨S1x512x2048, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S6x256x512, .bf16⟩
  | _, _ => ⟨S1x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_dev3 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_60 : BitVec 32 := 1#32
  let v89 : BitVec 32 := Scalar.muli v13 c1_i32_60
  let v90 : BitVec 32 := Scalar.addi c0_i32_61 v89
  v90.toNat
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_69 : BitVec 32 := 1#32
  let v98 : BitVec 32 := Scalar.muli v24 c1_i32_69
  let v99 : BitVec 32 := Scalar.addi c0_i32_70 v98
  v99.toNat
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_78 : BitVec 32 := 1#32
  let v107 : BitVec 32 := Scalar.muli v24 c1_i32_78
  let v108 : BitVec 32 := Scalar.addi c0_i32_79 v107
  v108.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_87 : BitVec 32 := 1#32
  let v116 : BitVec 32 := Scalar.muli v13 c1_i32_87
  let v117 : BitVec 32 := Scalar.addi c0_i32_88 v116
  v117.toNat
def k0_dev7 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_111 : BitVec 32 := 1#32
  let v139 : BitVec 32 := Scalar.muli v13 c1_i32_111
  let v140 : BitVec 32 := Scalar.addi c0_i32_112 v139
  v140.toNat
def k0_dev8 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_134 : BitVec 32 := 1#32
  let v162 : BitVec 32 := Scalar.muli v24 c1_i32_134
  let v163 : BitVec 32 := Scalar.addi c0_i32_135 v162
  v163.toNat
abbrev stage0_0 : Fin 1 → Memref sig .tc .vmem S1x512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x512x2048 : Shape := ⟨3, ![4, 512, 2048]⟩
abbrev S_ : Shape := ⟨0, ![]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S4x512x2048, .f32⟩
  | .hbm, ⟨2, _⟩ => ⟨S_, .f32⟩
  | .hbm, ⟨3, _⟩ => ⟨S512x2048, .f32⟩
  | .hbm, ⟨4, _⟩ => ⟨S512x2048, .bf16⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Cells.lean ====
/-
# The ring of four devices: its buffers, its semaphore cells, and who may do what

Each device reduces one column block of the sum of the four devices' rows.  The rows of a block are handled in
two halves: A (rows 0 to 255) and B (rows 256 to 511).  Six copies run per device, numbered as the kernel's
semaphores are: copies 0, 3, 4 go to the device before (`prv`), copies 1, 2, 5 to the device after (`nxt`).
Copy `k` reads scratch buffer `k` and lands in slot `k` of the receiver's landing buffer.

* 0 and 1 carry the halves meant for the device two steps away; the neighbour adds its own half (buffers 4 and 5)
  and passes the sum on as copies 4 and 5.
* 2 and 3 carry halves meant for the neighbour itself.

This module states the cells of that protocol as a schedule of rounds: every cell has one round, whose payments
hand buffers over.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the six copies' cells, and beside it the launch's own. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
/-- The device after `c`. -/
def nxt (c : Dev nD) : Dev nD := ⟨(c.val + 1) % 4, Nat.mod_lt _ (by decide)⟩
set_option backward.proofsInPublic true in
/-- The device before `c`. -/
def prv (c : Dev nD) : Dev nD := ⟨(c.val + 3) % 4, Nat.mod_lt _ (by decide)⟩
set_option backward.proofsInPublic true in
/-- The device across the ring from `c`. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide

/-- The ring's rotation. -/
def ring : Dev nD ≃ Dev nD := ⟨nxt, prv, prv_nxt, nxt_prv⟩

/-- Whether copy `k` goes to the device before. -/
def toPrv : Fin 6 → Bool := fun | 0 => true | 1 => false | 2 => false | 3 => true | 4 => true | 5 => false

/-- The device that copy `k` of device `c` goes to. -/
def tgt (k : Fin 6) (c : Dev nD) : Dev nD := bif toPrv k then prv c else nxt c
/-- The device whose copy `k` lands at `c`. -/
def org (k : Fin 6) (c : Dev nD) : Dev nD := bif toPrv k then nxt c else prv c

theorem org_tgt (k : Fin 6) (c : Dev nD) : org k (tgt k c) = c := by revert k c; decide
theorem tgt_org (k : Fin 6) (c : Dev nD) : tgt k (org k c) = c := by revert k c; decide

/-- Copy `k`'s addressing as a permutation of the devices. -/
def hop (k : Fin 6) : Dev nD ≃ Dev nD := ⟨tgt k, org k, org_tgt k, tgt_org k⟩

/-! ## The buffers -/

abbrev xM : Memref sig .tc .vmem S1x512x2048 .bf16 := Memref.whole cc0_stg0_0
abbrev oM : Memref sig .tc .vmem S512x512 .bf16 := Memref.whole cc0_stg1_0
abbrev rM : Memref sig .tc .vmem S6x256x512 .bf16 := Memref.whole cc0_scratch6

/-- The scratch buffer that copy `k` reads. -/
abbrev srcM : Fin 6 → Memref sig .tc .vmem S256x512 .bf16 := fun
  | 0 => Memref.whole cc0_scratch0 | 1 => Memref.whole cc0_scratch1 | 2 => Memref.whole cc0_scratch2
  | 3 => Memref.whole cc0_scratch3 | 4 => Memref.whole cc0_scratch4 | 5 => Memref.whole cc0_scratch5

/-- The same buffer as the copy names it. -/
abbrev srcV (k : Fin 6) : Memref sig .tc .vmem S256x512 .bf16 :=
  (srcM k).slice (Rect.unit (s := S256x512) ![0, 0] S256x512.size inb_S256x512_S256x512_0_0) (fun _ => rfl)

theorem slot_inb (k : Fin 6) : ∀ a : Fin S6x256x512.rank, (![k.val, 0, 0] : Fin 3 → ℕ) a + S1x256x512.size a ≤ S6x256x512.size a := by
  revert k; decide

/-- Where slot `k` lies in the landing buffer. -/
abbrev slotR (k : Fin 6) : Rect S6x256x512 := Rect.unit (s := S6x256x512) ![k.val, 0, 0] S1x256x512.size (slot_inb k)

/-- Slot `k` of the landing buffer. -/
abbrev slotM (k : Fin 6) : Memref sig .tc .vmem S256x512 .bf16 :=
  ((rM.slice (slotR k) (fun _ => rfl)).squeeze S256x512 squeezes_S1x256x512_S256x512)

/-- The bytes of one copy, as its semaphores count them. -/
abbrev N : ℕ := (slotM 0).view.dmaCredit
theorem N_pos : 0 < N := View.dmaCredit_pos _ (by decide)

/-! ## The cells -/

abbrev barS : Sem sig := (SemArray.scalar (sig.barrier 0 rfl) : Sems sig S_).sem

/-- The send semaphore of copy `k`. -/
abbrev sndS : Fin 6 → DmaSem sig := fun
  | 0 => ((cc0_scratch7.slice (Rect.unit (s := S6) ![0] S1.size inb_S6_S1_0)).squeeze S_ squeezes_S1_S_).sem
  | 1 => ((cc0_scratch7.slice (Rect.unit (s := S6) ![1] S1.size inb_S6_S1_1)).squeeze S_ squeezes_S1_S_).sem
  | 2 => ((cc0_scratch7.slice (Rect.unit (s := S6) ![2] S1.size inb_S6_S1_2)).squeeze S_ squeezes_S1_S_).sem
  | 3 => ((cc0_scratch7.slice (Rect.unit (s := S6) ![3] S1.size inb_S6_S1_3)).squeeze S_ squeezes_S1_S_).sem
  | 4 => ((cc0_scratch7.slice (Rect.unit (s := S6) ![4] S1.size inb_S6_S1_4)).squeeze S_ squeezes_S1_S_).sem
  | 5 => ((cc0_scratch7.slice (Rect.unit (s := S6) ![5] S1.size inb_S6_S1_5)).squeeze S_ squeezes_S1_S_).sem

/-- The receive semaphore of copy `k`. -/
abbrev rcvS : Fin 6 → DmaSem sig := fun
  | 0 => ((cc0_scratch8.slice (Rect.unit (s := S6) ![0] S1.size inb_S6_S1_0)).squeeze S_ squeezes_S1_S_).sem
  | 1 => ((cc0_scratch8.slice (Rect.unit (s := S6) ![1] S1.size inb_S6_S1_1)).squeeze S_ squeezes_S1_S_).sem
  | 2 => ((cc0_scratch8.slice (Rect.unit (s := S6) ![2] S1.size inb_S6_S1_2)).squeeze S_ squeezes_S1_S_).sem
  | 3 => ((cc0_scratch8.slice (Rect.unit (s := S6) ![3] S1.size inb_S6_S1_3)).squeeze S_ squeezes_S1_S_).sem
  | 4 => ((cc0_scratch8.slice (Rect.unit (s := S6) ![4] S1.size inb_S6_S1_4)).squeeze S_ squeezes_S1_S_).sem
  | 5 => ((cc0_scratch8.slice (Rect.unit (s := S6) ![5] S1.size inb_S6_S1_5)).squeeze S_ squeezes_S1_S_).sem

/-- A device's thirteen cells: the barrier, the six send cells, the six receive cells. -/
abbrev Ck : Type := Unit ⊕ Fin 6 ⊕ Fin 6
@[match_pattern] abbrev Ck.bar : Ck := .inl ()
@[match_pattern] abbrev Ck.snd (k : Fin 6) : Ck := .inr (.inl k)
@[match_pattern] abbrev Ck.rcv (k : Fin 6) : Ck := .inr (.inr k)

/-- The semaphore of a cell. -/
abbrev csem : Ck → SemLoc sig := fun
  | .bar => .reg barS | .snd k => .dma (sndS k) | .rcv k => .dma (rcvS k)

/-- Device `c`'s cell `k`. -/
abbrev cellAt (c : Dev nD) (k : Ck) : GSem nD τ sig := ((c : Thread nD τ), csem k)

theorem csem_injective : Function.Injective csem := by unfold Function.Injective; decide

/-- Which cell a semaphore is, if any. -/
def code (s : SemLoc sig) : Option Ck := if h : ∃ k, csem k = s then some h.choose else none

theorem code_csem (k : Ck) : code (csem k) = some k := by
  have h : ∃ k', csem k' = csem k := ⟨k, rfl⟩
  unfold code; rw [dif_pos h, csem_injective h.choose_spec]

theorem code_none {s : SemLoc sig} (h : ∀ k, csem k ≠ s) : code s = none := dif_neg fun ⟨k, e⟩ => h k e

/-- The separating conjunction over a device's cells, kind by kind. -/
theorem bigSep_ck (Φ : Ck → sProp 𝕄) :
    bigSep Finset.univ Φ = iprop(Φ .bar ∗ (bigSep Finset.univ fun k => Φ (.snd k)) ∗ (bigSep Finset.univ fun k => Φ (.rcv k))) := by
  rw [bigSep_univ_sum, bigSep_univ_sum, bigSep_univ_of_subsingleton ()]; rfl

/-- The separating conjunction over the six copies, one by one. -/
theorem bigSep_six (Φ : Fin 6 → sProp 𝕄) :
    bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]; rfl

/-! ## What the copies carry -/

/-- What a device holds of the input, by device. -/
abbrev Rows (F : FTy → Type) : Type := Dev nD → (cc0_stg0_0 : Ref sig .tc).ty.Contents (Elt F)

theorem cutA_inb (j : Dev nD) : ∀ a : Fin S1x512x2048.rank, (![0, 0, 512 * j.val] : Fin 3 → ℕ) a + S1x256x512.size a ≤ S1x512x2048.size a := by
  revert j; decide
theorem cutB_inb (j : Dev nD) : ∀ a : Fin S1x512x2048.rank, (![0, 256, 512 * j.val] : Fin 3 → ℕ) a + S1x256x512.size a ≤ S1x512x2048.size a := by
  revert j; decide
theorem cutW_inb (j : Dev nD) : ∀ a : Fin S1x512x2048.rank, (![0, 0, 512 * j.val] : Fin 3 → ℕ) a + S1x512x512.size a ≤ S1x512x2048.size a := by
  revert j; decide

/-- Where half A of column block `j` lies in a device's rows. -/
abbrev rectA (j : Dev nD) : Rect S1x512x2048 := Rect.unit (s := S1x512x2048) ![0, 0, 512 * j.val] S1x256x512.size (cutA_inb j)
/-- Where half B of column block `j` lies. -/
abbrev rectB (j : Dev nD) : Rect S1x512x2048 := Rect.unit (s := S1x512x2048) ![0, 256, 512 * j.val] S1x256x512.size (cutB_inb j)
/-- Where the whole column block `j` lies. -/
abbrev rectW (j : Dev nD) : Rect S1x512x2048 := Rect.unit (s := S1x512x2048) ![0, 0, 512 * j.val] S1x512x512.size (cutW_inb j)

/-- Half A of column block `j` of a device's rows. -/
def cutA (j : Dev nD) (v : (cc0_stg0_0 : Ref sig .tc).ty.Contents (Elt F)) : Vec F S256x512 .bf16 :=
  k0_pay1 (xM.view.readAt (Elt F) (rectA j).toLoadRect v)
/-- Half B of column block `j`. -/
def cutB (j : Dev nD) (v : (cc0_stg0_0 : Ref sig .tc).ty.Contents (Elt F)) : Vec F S256x512 .bf16 :=
  k0_pay1 (xM.view.readAt (Elt F) (rectB j).toLoadRect v)
/-- The whole of column block `j`. -/
def cutW (j : Dev nD) (v : (cc0_stg0_0 : Ref sig .tc).ty.Contents (Elt F)) : Vec F S512x512 .bf16 :=
  k0_pay25 (xM.view.readAt (Elt F) (rectW j).toLoadRect v)

/-- A slot's contents as a load of the landing buffer gives them: with a leading axis of extent one. -/
def lift (X : Vec F S256x512 .bf16) : Vec F S1x256x512 .bf16 := fun j => X ((Shape.reshapeEquiv squeezes_S1x256x512_S256x512.numel_eq).symm j)

/-- What copy `k` of device `c` carries. -/
def val (x : Rows F) : Fin 6 → Dev nD → Vec F S256x512 .bf16
  | 0, c => cutA (opp c) (x c)
  | 1, c => cutB (opp c) (x c)
  | 2, c => cutA (nxt c) (x c)
  | 3, c => cutB (prv c) (x c)
  | 4, c => k0_pay29 (cutA (prv c) (x c)) (lift (cutA (opp (nxt c)) (x (nxt c))))
  | 5, c => k0_pay30 (cutB (nxt c) (x c)) (lift (cutB (opp (prv c)) (x (prv c))))

/-- Copy `k`'s source buffer at device `c`, holding `X`. -/
abbrev srcPts (c : Dev nD) (k : Fin 6) (X : Vec F S256x512 .bf16) : sProp 𝕄 := owns (c : Thread nD τ) (srcV k) fullShare X
/-- Slot `k` at device `c`, holding `X`. -/
abbrev slotPts (c : Dev nD) (k : Fin 6) (X : Vec F S256x512 .bf16) : sProp 𝕄 := owns (c : Thread nD τ) (slotM k) fullShare X
/-- Slot `k` at device `c`, whatever it holds. -/
def slotFree (c : Dev nD) (k : Fin 6) : sProp 𝕄 := iprop(∃ X, slotPts c k X)

instance srcPts_storable (c : Dev nD) (k X) : BI.Storable (upEmb : UEmb _ 𝕄) (srcPts (F := F) c k X) := by unfold srcPts; infer_instance
instance slotPts_storable (c : Dev nD) (k X) : BI.Storable (upEmb : UEmb _ 𝕄) (slotPts (F := F) c k X) := by unfold slotPts; infer_instance
instance slotFree_storable (c : Dev nD) (k) : BI.Storable (upEmb : UEmb _ 𝕄) (slotFree (F := F) c k) := by unfold slotFree; infer_instance

/-! ## The schedule -/

/-- What a payment of device `c`'s cell `k` hands over.  The barrier's `true` comes from the device after, with the
    slots there that `c` writes; its `false` from the device before, likewise.  A send cell gives the source buffer
    back; a receive cell gives the slot with what the sender put there. -/
def pay (x : Rows F) (c : Dev nD) : Ck → Bool → sProp 𝕄
  | .bar, true => iprop(slotFree (nxt c) 1 ∗ slotFree (nxt c) 2 ∗ slotFree (nxt c) 5)
  | .bar, false => iprop(slotFree (prv c) 0 ∗ slotFree (prv c) 3 ∗ slotFree (prv c) 4)
  | .snd k, _ => srcPts c k (val x k c)
  | .rcv k, _ => slotPts c k (val x k (org k c))

instance pay_storable (x : Rows F) (c : Dev nD) (k d) : BI.Storable (upEmb : UEmb _ 𝕄) (pay (F := F) x c k d) := by
  rcases k with ⟨⟩ | k | k <;> rcases d with _ | _ <;> (unfold pay; infer_instance)

/-- The payments of a cell. -/
def dutiesOf : Ck → Finset Bool := fun | .bar => Finset.univ | .snd _ => {false} | .rcv _ => {false}
/-- The size of a payment. -/
def amountOf : Ck → ℕ := fun | .bar => 1 | .snd _ => N | .rcv _ => N
/-- All that a cell receives. -/
def totalOf : Ck → ℕ := fun | .bar => 2 | .snd _ => N | .rcv _ => N

theorem amountOf_pos (k : Ck) : 0 < amountOf k := by
  rcases k with ⟨⟩ | k | k
  · exact Nat.one_pos
  · exact N_pos
  · exact N_pos

/-- One round per cell. -/
def sched (x : Rows F) : Rounds.Schedule (GSem nD τ sig) Bool 𝕄 where
  duties g r := if r = 0 ∧ g.1.2 = .tc then (code g.2).elim ∅ dutiesOf else ∅
  unitless _ := False
  amount g _ _ := (code g.2).elim 1 amountOf
  payload g _ d := (code g.2).elim iprop(emp) fun k => pay x g.1.1 k d
  amount_pos g _ _ _ := by
    rcases code g.2 with _ | k
    · exact Nat.one_pos
    · exact amountOf_pos k

instance sched_storable (x : Rows F) (g : GSem nD τ sig) (r : ℕ) (d : Bool) :
    BI.Storable (upEmb : UEmb _ 𝕄) ((sched (F := F) x).payload g r d) := by
  show BI.Storable upEmb ((code g.2).elim iprop(emp) fun k => pay x g.1.1 k d)
  rcases code g.2 with _ | k <;> (dsimp only [Option.elim]; infer_instance)

section Tables
variable (x : Rows F) (c : Dev nD) (k : Ck)

theorem sched_duties : (sched (F := F) x).duties (cellAt c k) 0 = dutiesOf k := by
  dsimp only [sched]; rw [if_pos ⟨rfl, rfl⟩, code_csem]; rfl
theorem sched_later (g : GSem nD τ sig) : ∀ r, 1 ≤ r → (sched (F := F) x).duties g r = ∅ :=
  fun r hr => if_neg fun h => by omega
theorem sched_amount (d : Bool) : (sched (F := F) x).amount (cellAt c k) 0 d = amountOf k := by
  dsimp only [sched]; rw [code_csem]; rfl
theorem sched_payload (d : Bool) : (sched (F := F) x).payload (cellAt c k) 0 d = pay x c k d := by
  dsimp only [sched]; rw [code_csem]; rfl

theorem sched_expect : (sched (F := F) x).expect (cellAt c k) 0 = totalOf k := by
  unfold Schedule.expect Schedule.amountOf
  rw [sched_duties, Finset.sum_congr rfl fun d _ => sched_amount x c k d, Finset.sum_const, smul_eq_mul]
  rcases k with ⟨⟩ | k | k
  · rfl
  · exact Nat.one_mul _
  · exact Nat.one_mul _

/-- The whole round's payload of a cell. -/
theorem sched_rest : bigSep ((sched (F := F) x).duties (cellAt c k) 0 \ ∅) (fun d => (sched (F := F) x).payload (cellAt c k) 0 d)
    = bigSep (dutiesOf k) (pay x c k) := by
  rw [Finset.sdiff_empty, sched_duties]; exact bigSep_congr fun d _ => sched_payload x c k d

end Tables

theorem rest_bar (x : Rows F) (c : Dev nD) : bigSep (dutiesOf .bar) (pay x c .bar)
    = iprop((slotFree (prv c) 0 ∗ slotFree (prv c) 3 ∗ slotFree (prv c) 4) ∗ slotFree (nxt c) 1 ∗ slotFree (nxt c) 2 ∗ slotFree (nxt c) 5 : sProp 𝕄) := by
  show bigSep Finset.univ _ = _
  rw [bigSep_univ_eq_bigSepL [false, true] (by decide) (by decide)]; rfl

/-! ## What a device owes, and in which order cells are waited for -/

/-- What copy `k` of device `c` will pay at its target's receive cell. -/
def owe (k : Fin 6) (c : Dev nD) : CellTallies nD τ sig Unit := tallyAt (cellAt (tgt k c) (.rcv k)) () N

/-- What device `c` owes once copies `0, …, j-1` have started. -/
def rest (c : Dev nD) (j : ℕ) : CellTallies nD τ sig Unit := ∑ k ∈ Finset.univ.filter (fun k : Fin 6 => j ≤ k.val), owe k c

theorem rest_succ (c : Dev nD) (k : Fin 6) : rest c k.val = rest c (k.val + 1) + owe k c := by
  have h : (Finset.univ.filter fun i : Fin 6 => k.val ≤ i.val) = insert k (Finset.univ.filter fun i : Fin 6 => k.val + 1 ≤ i.val) := by
    revert k; decide
  unfold rest
  rw [h, Finset.sum_insert (by simp), add_comm]

theorem rest_six (c : Dev nD) : rest c 6 = 0 := by
  unfold rest; rw [show (Finset.univ.filter fun i : Fin 6 => 6 ≤ i.val) = ∅ by decide]; exact Finset.sum_empty

/-- What device `c` owes after its first barrier signal, and at launch. -/
def owed₁ (c : Dev nD) : CellTallies nD τ sig Unit := rest c 0 + tallyAt (cellAt (nxt c) .bar) () 1
def owed₀ (c : Dev nD) : CellTallies nD τ sig Unit := owed₁ c + tallyAt (cellAt (prv c) .bar) () 1

theorem rest_pos {c : Dev nD} {j : ℕ} {g : GSem nD τ sig} {u : Unit} (h : 0 < rest c j g u) :
    ∃ k : Fin 6, j ≤ k.val ∧ g = cellAt (tgt k c) (.rcv k) := by
  unfold rest at h
  rw [Finset.sum_apply, Finsupp.finset_sum_apply] at h
  obtain ⟨k, hk, hp⟩ := Finset.exists_ne_zero_of_sum_ne_zero h.ne'
  refine ⟨k, (Finset.mem_filter.mp hk).2, ?_⟩
  by_contra hg
  exact hp (by unfold owe; rw [tallyAt_apply, if_neg fun h' => hg h'.1])

theorem owed₀_pos {c : Dev nD} {g : GSem nD τ sig} {u : Unit} (h : 0 < owed₀ c g u) :
    (∃ k : Fin 6, g = cellAt (tgt k c) (.rcv k)) ∨ g = cellAt (nxt c) .bar ∨ g = cellAt (prv c) .bar := by
  by_contra hn
  rw [not_or, not_or] at hn
  have h0 : rest c 0 g u = 0 := by
    rcases Nat.eq_zero_or_pos (rest c 0 g u) with e | e
    · exact e
    · obtain ⟨k, -, hk⟩ := rest_pos e; exact absurd ⟨k, hk⟩ hn.1
  unfold owed₀ owed₁ at h
  rw [Pi.add_apply, Finsupp.add_apply, Pi.add_apply, Finsupp.add_apply, tallyAt_apply, tallyAt_apply, h0,
    if_neg (fun h' => hn.2.1 h'.1), if_neg (fun h' => hn.2.2 h'.1)] at h
  exact Nat.lt_irrefl 0 h

/-- Only the cores' own cells are waited for. -/
def L (g : GSem nD τ sig) : Finset Unit := if g.1.2 = .tc then {()} else ∅

/-- The order: the barrier, then the direct copies, then the passed-on ones; a device waits only for cells below
    all it still owes. -/
def level : Ck → ℕ := fun | .bar => 1 | .snd _ => 0 | .rcv k => if k.val < 4 then 2 else 3
def lv (g : GSem nD τ sig) (_ : Unit) : ℕ := (code g.2).elim 0 level

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (k : Ck) (u : Unit) : lv (cellAt c k) u = level k := by unfold lv; rw [code_csem]; rfl

/-- A device may wait for a cell of level at most `n` while all it owes lies above `n`. -/
theorem mayWait_of (c : Dev nD) (s : SemLoc sig) (O : CellTallies nD τ sig Unit) (n : ℕ) (hs : (code s).elim 0 level ≤ n)
    (hO : ∀ g u, 0 < O g u → ∃ d k, g = cellAt d k ∧ n < level k) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hs)
    (fun g u hg => by obtain ⟨d, k, rfl, hk⟩ := hO g u hg; rw [lv_cell]; exact hk)

/-- At a staging semaphore a device may wait whatever it owes at launch. -/
theorem mayWait_stage (c : Dev nD) (s : SemLoc sig) (hs : ∀ k, csem k ≠ s) (O : CellTallies nD τ sig Unit) (hO : O = owed₀ c ∨ O = 0) :
    (levAts L lv : sProp 𝕄) ⊢ MayWait (c : Thread nD τ) s () O := by
  rcases hO with rfl | rfl
  · refine mayWait_of c s _ 0 (by rw [code_none hs]; exact Nat.le_refl 0) fun g u hg => ?_
    rcases owed₀_pos hg with ⟨k, rfl⟩ | rfl | rfl
    · exact ⟨_, _, rfl, by clear hg; revert k; decide⟩
    · exact ⟨_, .bar, rfl, by decide⟩
    · exact ⟨_, .bar, rfl, by decide⟩
  · rw [MayWait_zero]; iintro -; iempintro

/-- A device may wait for its cell `k` once the copies it has yet to start all lie above it. -/
theorem mayWait_rest (c : Dev nD) (k : Ck) (j : ℕ) (h : ∀ i : Fin 6, j ≤ i.val → level k < level (.rcv i)) :
    (levAts L lv : sProp 𝕄) ⊢ MayWait (c : Thread nD τ) (csem k) () (rest c j) :=
  mayWait_of c _ _ (level k) (by rw [code_csem]; exact Nat.le_refl _) fun g u hg => by
    obtain ⟨i, hi, rfl⟩ := rest_pos hg
    exact ⟨_, _, rfl, h i hi⟩

end Cert.RingSum
-- ==== Proof.Steps.lean ====
/-
# The single steps of the protocol

One rule per kind of step, for any copy and any device: a load from a slice, a store to one, the start of a copy,
a wait for a semaphore cell.  Each consumes what the step needs and names what it leaves.
-/
module

public import proofs.«01_k».proof.Proof.Cells

@[expose] public section

noncomputable section

namespace Cert.RingSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` and ends with `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores through a slice -/

section Memory
variable {s s' : Shape} {e : EltTy} {α : Type}

/-- Loading a rectangle of which the slice is owned gives the slice's contents. -/
theorem wp_load_slice (c : Dev nD) {Q : α → sProp 𝕄} {m : Memref sig .tc .vmem s e} {r : Rect s} {hr : ∀ a, r.stride a = 1} {X : r.shape.Idx → Elt F e}
    {hl : m.view.LoadsAt r} {k : (r.shape.Idx → Elt F e) → Prog (TpuEff nD τ sig (Elt F) Λ₀ .tc) α} :
    (owns (c : Thread nD τ) (m.slice r hr) fullShare X : sProp 𝕄)
      ⊢ iprop((owns (c : Thread nD τ) (m.slice r hr) fullShare X -∗ runs c (k X) Q) -∗ runs c (.op (.load m r hl) k) Q) := by
  unfold owns
  iintro ⟨%f, %hf, H⟩ Hk
  iapply (wp_load_rect 𝒱₀ (c : Thread nD τ) none Set.univ (m := m) (r := r) (Finset.Subset.refl _)) $$ H
  iintro H
  have e1 : (m.access r).read (Elt F) f = X := hf
  rw [e1]
  iapply Hk
  iexists f
  isplitr; · ipureintro; exact hf
  iexact H

/-- The same for a slice seen without its leading axis: the load gives the contents with the axis back. -/
theorem wp_load_squeezed (c : Dev nD) {Q : α → sProp 𝕄} {m : Memref sig .tc .vmem s e} {r : Rect s} {hr : ∀ a, r.stride a = 1} {hs : r.shape.Squeezes s'}
    {X : s'.Idx → Elt F e} {hl : m.view.LoadsAt r} {k : (r.shape.Idx → Elt F e) → Prog (TpuEff nD τ sig (Elt F) Λ₀ .tc) α} :
    (owns (c : Thread nD τ) ((m.slice r hr).squeeze s' hs) fullShare X : sProp 𝕄)
      ⊢ iprop((owns (c : Thread nD τ) ((m.slice r hr).squeeze s' hs) fullShare X
            -∗ runs c (k fun j => X ((Shape.reshapeEquiv hs.numel_eq).symm j)) Q)
          -∗ runs c (.op (.load m r hl) k) Q) := by
  unfold owns
  iintro ⟨%f, %hf, H⟩ Hk
  iapply (wp_load_rect 𝒱₀ (c : Thread nD τ) none Set.univ (m := m) (r := r) (by rw [View.set_reshape])) $$ H
  iintro H
  have e1 : (m.access r).read (Elt F) f = fun j => X ((Shape.reshapeEquiv hs.numel_eq).symm j) := by
    funext j
    rw [← hf]
    show _ = (m.access r).read (Elt F) f (Shape.reshapeEquiv hs.numel_eq ((Shape.reshapeEquiv hs.numel_eq).symm j))
    rw [Equiv.apply_symm_apply]
  rw [e1]
  iapply Hk
  iexists f
  isplitr; · ipureintro; exact hf
  iexact H

/-- Storing to the whole of an owned slice leaves it holding what was stored. -/
theorem wp_store_slice (c : Dev nD) {Q : α → sProp 𝕄} {m : Memref sig .tc .vmem s e} {r : Rect s} {hr : ∀ a, r.stride a = 1} {X : r.shape.Idx → Elt F e}
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} :
    (owns (c : Thread nD τ) (m.slice r hr) fullShare X : sProp 𝕄)
      ⊢ iprop((owns (c : Thread nD τ) (m.slice r hr) fullShare w -∗ runs c (k ⟨⟩) Q) -∗ runs c (.op (.store m r w Finset.univ hx hm) k) Q) := by
  unfold owns
  iintro ⟨%f, %hf, H⟩ Hk
  iapply (wp_store 𝒱₀ (c : Thread nD τ) none Set.univ (m := m) (r := r) (Mk := Finset.univ) (S := (m.access r).set) (f := f)
    (Finset.Subset.refl _)) $$ H
  iintro H
  iapply Hk
  iexists ((m.access r).write (Elt F) f w Finset.univ)
  isplitr
  · ipureintro
    show (m.access r).read (Elt F) ((m.access r).write (Elt F) f w Finset.univ) = w
    exact View.read_write_univ f w
  iexact H

end Memory

/-! ## What every device knows -/

/-- That every cell of every device keeps to the schedule, and has begun it. -/
def known (x : Rows F) : sProp 𝕄 :=
  iprop(∃ K : Dev nD × Ck → ℕ, bigSep Finset.univ fun ck : Dev nD × Ck =>
    iprop(cellInv ER (sched x) (K ck) (cellAt ck.1 ck.2) ∗ reached ER (cellAt ck.1 ck.2) 0))

instance known_persistent (x : Rows F) : BI.Persistent (known x) := by unfold known; infer_instance

/-- One cell of them all. -/
theorem cell_of_all (x : Rows F) (K : Dev nD × Ck → ℕ) (c : Dev nD) (k : Ck) :
    (bigSep Finset.univ fun ck : Dev nD × Ck => (iprop(cellInv ER (sched x) (K ck) (cellAt ck.1 ck.2) ∗ reached ER (cellAt ck.1 ck.2) 0) : sProp 𝕄))
      ⊢ iprop(cellInv ER (sched x) (K (c, k)) (cellAt c k) ∗ reached ER (cellAt c k) 0) :=
  bigSep_elim (Finset.mem_univ ((c, k) : Dev nD × Ck))

theorem known_at (x : Rows F) (c : Dev nD) (k : Ck) :
    known x ⊢ (iprop(∃ κ, cellInv ER (sched x) κ (cellAt c k) ∗ reached ER (cellAt c k) 0) : sProp 𝕄) := by
  unfold known
  iintro ⟨%K, H⟩
  iexists K (c, k)
  iapply (cell_of_all x K c k) $$ H

/-- What device `c` owes with copies `0, …, j-1` started. -/
def held (c : Dev nD) (j : ℕ) : sProp 𝕄 := iprop(∃ W : Waits sig Unit, owes (c : Thread nD τ) (rest c j) W)

/-- Device `c`'s right to pay for its copy `k`: at its own send cell and at the target's receive cell. -/
def ticket (c : Dev nD) (k : Fin 6) : sProp 𝕄 :=
  iprop(dutyTok ER (cellAt c (.snd k)) 0 false ∗ dutyTok ER (cellAt (tgt k c) (.rcv k)) 0 false)

/-- Device `c`'s place at its cell `k`, before the round. -/
def seat (c : Dev nD) (k : Ck) : sProp 𝕄 := atPos ER (cellAt c k) 0 ∅ 0

/-- The credit that a wait for the whole round of cell `k` spends. -/
def credit (c : Dev nD) (k : Ck) : sProp 𝕄 := cred (tallyAt (cellAt c k) () (totalOf k))

/-! ## A barrier signal -/

/-- Signalling device `n`'s barrier with its payment `d`. -/
theorem wp_notify (x : Rows F) (c d : Dev nD) (b : Bool) {sm : Sem sig} (hs : sm = barS) {O₀ : CellTallies nD τ sig Unit}
    (O : CellTallies nD τ sig Unit) (hO : O₀ = O + tallyAt (cellAt d .bar) () 1) {W : Waits sig Unit}
    {α : Type} {Q : α → sProp 𝕄} {k : PUnit → Prog (TpuEff nD τ sig (Elt F) Λ₀ .tc) α} {n : ℕ} (hn : 1 = n) :
    iprop(known x ∗ owes (c : Thread nD τ) O₀ W ∗ dutyTok ER (cellAt d .bar) 0 b ∗ pay x d .bar b)
      ⊢ iprop((owes (c : Thread nD τ) O W -∗ runs c (k ⟨⟩) Q) -∗ runs c (.op (.semSignal (d : Thread nD τ) sm n) k) Q) := by
  subst hs
  subst hn
  iintro ⟨#HK, HO, Ht, Hp⟩ Hk
  ihave Hc := (known_at x d .bar) $$ HK
  icases Hc with ⟨%κ, #HI, #HR⟩
  iapply (Rounds.wp_signal 𝒱₀ ER (sched x) (c : Thread nD τ) none (dst := (d : Thread nD τ)) (κ := κ) (d := b)
      (by rw [show (((d : Thread nD τ), SemLoc.reg barS) : GSem nD τ sig) = cellAt d .bar from rfl, sched_duties]; exact Finset.mem_univ _)
      (sched_amount x d .bar b) () O hO) $$ [HO Ht Hp]
  · isplitr; · iexact HI
    isplitl [HO]; · iexact HO
    isplitl [Ht]; · iexact Ht
    isplitl [Hp]
    · ihave Hp := (Entails.of_eq (sched_payload x d .bar b).symm) $$ Hp
      iexact Hp
    iexact HR
  iexact Hk

/-! ## Starting a copy -/

/-- Copy `k` of device `c` takes the source buffer and the target's free slot and leaves the credit for its send
    cell. -/
theorem wp_put (x : Rows F) (k : Fin 6) (c n : Dev nD) (hn : n = tgt k c) {src dst : Memref sig .tc .vmem S256x512 .bf16}
    (hs : src = srcV k) (hd : dst = slotM k) (hN : (slotM k).view.dmaCredit = N) {sS sR : SemLoc sig} (hS : sS = csem (.snd k)) (hR : sR = csem (.rcv k))
    {hsc : (dst : Memref sig (Dev.tc n : Thread nD τ).2.kind .vmem S256x512 .bf16).view.ref.isScScratch = false}
    {hsrc : src.view.WordExact} {hdst : dst.view.WordExact}
    {hsem : DmaTarget.Typed .vmem sR (.remote (Dev.tc n : Thread nD τ) (dst : Memref sig .tc .vmem S256x512 .bf16) sS hsc)}
    {α : Type} {Q : α → sProp 𝕄} {K : PUnit → Prog (TpuEff nD τ sig (Elt F) Λ₀ .tc) α} :
    iprop(known x ∗ srcPts c k (val x k c) ∗ slotFree (tgt k c) k ∗ held c k.val ∗ ticket c k)
      ⊢ iprop(((credit c (.snd k) ∗ held c (k.val + 1)) -∗ runs c (K ⟨⟩) Q)
          -∗ runs c (.op (.enqueueDma src (.remote (Dev.tc n : Thread nD τ) dst sS hsc) sR hsrc hdst hsem) K) Q) := by
  subst hn; subst hs; subst hd; subst hS; subst hR
  unfold srcPts slotFree slotPts held ticket credit owns
  iintro ⟨#HK, ⟨%fs, %hfs, Hs⟩, ⟨%X, %fd, -, Hd⟩, ⟨%W, HO⟩, Ht1, Ht2⟩ Hk
  ihave Hc1 := (known_at x c (.snd k)) $$ HK
  icases Hc1 with ⟨%κ₁, #HI1, #HR1⟩
  ihave Hc2 := (known_at x (tgt k c) (.rcv k)) $$ HK
  icases Hc2 with ⟨%κ₂, #HI2, #HR2⟩
  iapply (Rounds.wp_send_pointsTo 𝒱₀ ER (sched x) (c : Thread nD τ) none (κ₁ := κ₁) (κ₂ := κ₂)
    (r₁ := 0) (r₂ := 0) (d₁ := false) (d₂ := false) (fs := fs) (fd := fd)
    (by rw [sched_duties]; exact Finset.mem_singleton_self _) (by rw [sched_duties]; exact Finset.mem_singleton_self _)
    () () N (show (slotM k).view.amount (csem (.rcv k)) = N from hN) (sched_amount x c (.snd k) false) (sched_amount x (tgt k c) (.rcv k) false) (rest c (k.val + 1)) (rest_succ c k) (W := W)
    (by
      rw [sched_payload]; show _ ⊢ srcPts c k (val x k c)
      unfold srcPts; rw [← hfs]; exact owns_intro _ _ _ _)
    (by
      rw [sched_payload]; show _ ⊢ slotPts (tgt k c) k (val x k (org k (tgt k c)))
      unfold slotPts; rw [org_tgt, ← hfs]
      exact (owns_intro _ _ _ _).trans (Entails.of_eq (congrArg _ (View.read_write_univ (v := (slotM k).view) fd ((srcV k).view.read (Elt F) fs)))))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W; iexact HO

/-! ## Waiting for a cell -/

/-- A wait for all of cell `k`, whatever step waits: it gives the round's payload, and the semaphore at zero. -/
theorem wp_await (x : Rows F) (c : Dev nD) (k : Ck) (j : ℕ) (hj : ∀ i : Fin 6, j ≤ i.val → level k < level (.rcv i))
    {w : TpuEff nD τ sig (Elt F) Λ₀ .tc PUnit}
    (hw : ∀ K : PUnit → sProp 𝕄, wpE' (defs₀ (F := F)) 𝒱₀ (c : Thread nD τ) none [] Set.univ w K = waitSpec (c : Thread nD τ) Set.univ (csem k) (totalOf k) K)
    {α : Type} {Q : α → sProp 𝕄} {K : PUnit → Prog (TpuEff nD τ sig (Elt F) Λ₀ .tc) α} :
    iprop(known x ∗ levAts L lv ∗ credit c k ∗ held c j ∗ seat c k)
      ⊢ iprop(((bigSep (dutiesOf k) (pay x c k) ∗ held c j ∗ semVal (cellAt c k) 0) -∗ runs c (K ⟨⟩) Q) -∗ runs c (.op w K) Q) := by
  unfold credit held seat
  iintro ⟨#HK, #Hlev, Hcr, ⟨%W, HO⟩, Hat⟩ Hk
  ihave Hc := (known_at x c k) $$ HK
  icases Hc with ⟨%κ, #HI, -⟩
  iapply (Rounds.wp_wait_rest_token 𝒱₀ ER (sched x) (c : Thread nD τ) none (κ := κ) hw (Set.mem_univ _) () (O := rest c j) (W := W)
      (R := 0) (m := 0) (T := ∅) (by rw [Nat.zero_add]; exact (sched_expect x c k).symm)) $$ [Hcr HO Hat]
  · isplitr; · iexact HI
    isplitl [Hcr]; · iexact Hcr
    isplitl [HO]; · iexact HO
    isplitr; · iapply (mayWait_rest c k j hj); iexact Hlev
    iexact Hat
  iintro ⟨HO, Hat, -, Hpay⟩
  ihave Hp := (Entails.of_eq (sched_rest x c k)) $$ Hpay
  imod (Rounds.cell_close ER (sched x) (Set.mem_univ κ) (fun h => h) (R := 0 + 1) (sched_later x (cellAt c k))) $$ [Hat] with Hz
  · isplitr; · iexact HI
    iexact Hat
  iapply Hk
  isplitl [Hp]; · iexact Hp
  isplitl [HO]; · iexists _; iexact HO
  iexact Hz

/-- The wait for the barrier's two signals: the six slots that `c` writes elsewhere are free. -/
theorem wp_await_bar (x : Rows F) (c : Dev nD) {sm : Sem sig} (hs : sm = barS) {n : ℕ} (hn : n = 2)
    {α : Type} {Q : α → sProp 𝕄} {K : PUnit → Prog (TpuEff nD τ sig (Elt F) Λ₀ .tc) α} :
    iprop(known x ∗ levAts L lv ∗ credit c .bar ∗ held c 0 ∗ seat c .bar)
      ⊢ iprop(((((slotFree (prv c) 0 ∗ slotFree (prv c) 3 ∗ slotFree (prv c) 4) ∗ slotFree (nxt c) 1 ∗ slotFree (nxt c) 2 ∗ slotFree (nxt c) 5)
            ∗ held c 0 ∗ semVal (cellAt c .bar) 0) -∗ runs c (K ⟨⟩) Q) -∗ runs c (.op (.semWait sm n) K) Q) := by
  subst hs; subst hn
  have h := wp_await (F := F) x c .bar 0 (by decide) (w := .semWait barS 2) (wpE_semWait_eq 𝒱₀ (c : Thread nD τ) none Set.univ) (Q := Q) (K := K)
  rw [rest_bar] at h
  exact h

/-- The wait for the landing of copy `k`: its slot with what the sender put there. -/
theorem wp_await_rcv (x : Rows F) (c : Dev nD) (k : Fin 6) (j : ℕ) (hj : ∀ i : Fin 6, j ≤ i.val → level (.rcv k) < level (.rcv i))
    {sem : DmaSem sig} (hs : sem = rcvS k) {src dst : Memref sig .tc .vmem S256x512 .bf16} (hN : dst.view.dmaCredit = N)
    {hsrc : src.view.WordExact} {hdst : dst.view.WordExact}
    {α : Type} {Q : α → sProp 𝕄} {K : PUnit → Prog (TpuEff nD τ sig (Elt F) Λ₀ .tc) α} :
    iprop(known x ∗ levAts L lv ∗ credit c (.rcv k) ∗ held c j ∗ seat c (.rcv k))
      ⊢ iprop(((slotPts c k (val x k (org k c)) ∗ held c j ∗ semVal (cellAt c (.rcv k)) 0) -∗ runs c (K ⟨⟩) Q)
          -∗ runs c (.op (.waitDma2 sem src dst hsrc hdst) K) Q) := by
  subst hs
  have h := wp_await (F := F) x c (.rcv k) j hj (w := .waitDma2 (rcvS k) src dst hsrc hdst)
    (fun K => (wpE_waitDma2_eq 𝒱₀ (c : Thread nD τ) none Set.univ K).trans (by rw [hN]; rfl)) (Q := Q) (K := K)
  rw [show dutiesOf (.rcv k) = {false} from rfl, bigSep_singleton] at h
  exact h

/-- The wait for the end of copy `k`'s sending: its source buffer back. -/
theorem wp_await_snd (x : Rows F) (c : Dev nD) (k : Fin 6)
    {sem : DmaSem sig} (hs : sem = sndS k) {src dst : Memref sig .tc .vmem S256x512 .bf16} (hN : dst.view.dmaCredit = N)
    {hsrc : src.view.WordExact} {hdst : dst.view.WordExact}
    {α : Type} {Q : α → sProp 𝕄} {K : PUnit → Prog (TpuEff nD τ sig (Elt F) Λ₀ .tc) α} :
    iprop(known x ∗ levAts L lv ∗ credit c (.snd k) ∗ held c 6 ∗ seat c (.snd k))
      ⊢ iprop(((srcPts c k (val x k c) ∗ held c 6 ∗ semVal (cellAt c (.snd k)) 0) -∗ runs c (K ⟨⟩) Q)
          -∗ runs c (.op (.waitDma2 sem src dst hsrc hdst) K) Q) := by
  subst hs
  have h := wp_await (F := F) x c (.snd k) 6 (fun i hi => absurd i.isLt (by omega)) (w := .waitDma2 (sndS k) src dst hsrc hdst)
    (fun K => (wpE_waitDma2_eq 𝒱₀ (c : Thread nD τ) none Set.univ K).trans (by rw [hN]; rfl)) (Q := Q) (K := K)
  rw [show dutiesOf (.snd k) = {false} from rfl, bigSep_singleton] at h
  exact h

end Cert.RingSum
-- ==== Proof.Stage.lean ====
/-
# The first half of the body: the handshake and the staging

A device works out its own and its neighbours' numbers, signals both neighbours' barriers with the slots they will
write, copies the pieces it will send or keep out of its rows, and waits for both neighbours' signals.  Which piece
goes where depends on the device's number: the program compares it with 0, 1, 2, 3 in turn, and stages the matching
piece.  `upTo` says how far such a comparison has come.
-/
module

public import proofs.«01_k».proof.Proof.Steps

@[expose] public section

set_option maxRecDepth 16384

noncomputable section

namespace Cert.RingSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Comparing a device number with 0, 1, 2, 3 -/

/-- A device's number as a word. -/
def wd (d : Dev nD) : BitVec 32 := BitVec.ofNat 32 d.val

/-- The program's test whether device `d` is device 0; -/
theorem test_0 : ∀ d : Dev nD, Scalar.cmpi .ne (Scalar.extui (Scalar.cmpi .eq (wd d) 0#32) : BitVec 32) 0#32 = 1#1 ↔ d = 0 := by decide
/-- device 1; -/
theorem test_1 : ∀ d : Dev nD, Scalar.cmpi .ne (Scalar.extui (Scalar.cmpi .eq (wd d) 1#32) : BitVec 32) 0#32 = 1#1 ↔ d = 1 := by decide
/-- device 2; -/
theorem test_2 : ∀ d : Dev nD, Scalar.cmpi .ne (Scalar.extui (Scalar.cmpi .eq (wd d) 2#32) : BitVec 32) 0#32 = 1#1 ↔ d = 2 := by decide
/-- device 3. -/
theorem test_3 : ∀ d : Dev nD, Scalar.cmpi .ne (Scalar.extui (Scalar.cmpi .eq (wd d) 3#32) : BitVec 32) 0#32 = 1#1 ↔ d = 3 := by decide

/-- A buffer once `d` has been compared with the numbers below `j`: it holds the piece of `d` if `d` is among them. -/
def upTo {α : Type} (B : α → sProp 𝕄) (f : Dev nD → α) (d : Dev nD) (j : ℕ) : sProp 𝕄 :=
  if d.val < j then B (f d) else iprop(∃ X, B X)

section UpTo
variable {α : Type}

theorem upTo_some (B : α → sProp 𝕄) (f : Dev nD → α) (d : Dev nD) (j : ℕ) : upTo B f d j ⊢ iprop(∃ X, B X) := by
  unfold upTo; split
  · iintro H; iexists f d; iexact H
  · iintro H; iexact H

theorem upTo_zero (B : α → sProp 𝕄) (f : Dev nD → α) (d : Dev nD) : iprop(∃ X, B X) ⊢ upTo B f d 0 := by
  unfold upTo; rw [if_neg (Nat.not_lt_zero _)]

theorem upTo_four (B : α → sProp 𝕄) (f : Dev nD → α) (d : Dev nD) : upTo B f d 4 ⊢ B (f d) := by
  unfold upTo; rw [if_pos d.isLt]

theorem upTo_hit (B : α → sProp 𝕄) (f : Dev nD → α) (d : Dev nD) (j : Dev nD) (n : ℕ) (hn : j.val = n) (h : d = j) : B (f j) ⊢ upTo B f d (n + 1) := by
  subst h; subst hn; unfold upTo; rw [if_pos (Nat.lt_succ_self _)]

theorem upTo_miss (B : α → sProp 𝕄) (f : Dev nD → α) (d : Dev nD) (j : Dev nD) (n : ℕ) (hn : j.val = n) (h : d ≠ j) : upTo B f d n ⊢ upTo B f d (n + 1) := by
  subst hn
  have hne : d.val ≠ j.val := fun e => h (Fin.ext e)
  have e : d.val < j.val + 1 ↔ d.val < j.val := by omega
  unfold upTo; simp only [e]; iintro H; iexact H

end UpTo

/-- The rows that device `c` holds, in its input buffer. -/
def rowsPts (x : Rows F) (c : Dev nD) : sProp 𝕄 := ((c : Thread nD τ).loc cc0_stg0_0) ↦{fullShare} x c

/-! ## Staging what matches -/

section Pick
variable {α : Type}

/-- Copying one piece of the rows into a buffer of its shape. -/
theorem wp_copy (x : Rows F) (c : Dev nD) {Q : α → sProp 𝕄} {s : Shape} {m : Memref sig .tc .vmem s .bf16} {r : Rect S1x512x2048} {r' : Rect s}
    {hr : ∀ a, r'.stride a = 1} {p : (r.shape.Idx → Elt F .bf16) → (r'.shape.Idx → Elt F .bf16)} {hl : xM.view.LoadsAt r.toLoadRect} {hl' : m.view.LoadsAt r'.toLoadRect}
    {hx : (m.access r').Stores Finset.univ} {hm : (Finset.univ : Finset r'.shape.Idx) = Finset.univ ∨ ∀ a, r'.stride a = 1}
    {K : Prog (TpuEff nD τ sig (Elt F) Λ₀ .tc) α} :
    iprop(rowsPts x c ∗ (∃ X, owns (c : Thread nD τ) (m.slice r' hr) fullShare X))
      ⊢ iprop(((rowsPts x c ∗ owns (c : Thread nD τ) (m.slice r' hr) fullShare (p (xM.view.readAt (Elt F) r.toLoadRect (x c)))) -∗ runs c K Q)
          -∗ runs c (.op (.load xM r.toLoadRect hl) fun v => .op (.load m r'.toLoadRect hl') fun _ => .op (.store m r' (p v) Finset.univ hx hm) fun _ => K) Q) := by
  unfold rowsPts
  iintro ⟨Hx, ⟨%X, Hb⟩⟩ Hk
  iapply (wp_load 𝒱₀ (c : Thread nD τ) none Set.univ (m := xM) (Finset.subset_univ _)) $$ Hx
  iintro Hx
  iapply (wp_load_slice c (m := m) (r := r') (hr := hr)) $$ Hb
  iintro Hb
  iapply (wp_store_slice c (m := m) (r := r') (hr := hr)) $$ Hb
  iintro Hb
  iapply Hk
  isplitl [Hx]; · iexact Hx
  iexact Hb

/-- One comparison, with one piece staged if it succeeds. -/
theorem wp_pick_one (x : Rows F) (c : Dev nD) (d j : Dev nD) (n : ℕ) (hn : j.val = n) {Q : α → sProp 𝕄} {s : Shape} {m : Memref sig .tc .vmem s .bf16} {r : Rect S1x512x2048} {r' : Rect s}
    (hr : ∀ a, r'.stride a = 1) (f : Dev nD → (r'.shape.Idx → Elt F .bf16))
    {v : BitVec 1} (hv : v = 1#1 ↔ d = j)
    {p : (r.shape.Idx → Elt F .bf16) → (r'.shape.Idx → Elt F .bf16)} (hp : p (xM.view.readAt (Elt F) r.toLoadRect (x c)) = f j)
    {hl : xM.view.LoadsAt r.toLoadRect} {hl' : m.view.LoadsAt r'.toLoadRect}
    {hx : (m.access r').Stores Finset.univ} {hm : (Finset.univ : Finset r'.shape.Idx) = Finset.univ ∨ ∀ a, r'.stride a = 1}
    {K : Prog (TpuEff nD τ sig (Elt F) Λ₀ .tc) α} :
    iprop(rowsPts x c ∗ upTo (owns (c : Thread nD τ) (m.slice r' hr) fullShare) f d n)
      ⊢ iprop(((rowsPts x c ∗ upTo (owns (c : Thread nD τ) (m.slice r' hr) fullShare) f d (n + 1)) -∗ runs c K Q)
          -∗ runs c (if h : v = 1#1 then
              .op (.load xM r.toLoadRect hl) fun v => .op (.load m r'.toLoadRect hl') fun _ => .op (.store m r' (p v) Finset.univ hx hm) fun _ => K
            else K) Q) := by
  by_cases h : v = 1#1
  · rw [dif_pos h]
    iintro ⟨Hx, Hb⟩ Hk
    ihave Hb' := (upTo_some _ f d n) $$ Hb
    iapply (wp_copy x c (m := m) (r := r) (r' := r') (hr := hr) (p := p)) $$ [Hx Hb']
    · isplitl [Hx] <;> iassumption
    iintro ⟨Hx, Hb⟩
    iapply Hk
    isplitl [Hx]; · iexact Hx
    rw [hp]
    iapply (upTo_hit _ f d j n hn (hv.mp h)) $$ Hb
  · rw [dif_neg h]
    iintro ⟨Hx, Hb⟩ Hk
    iapply Hk
    isplitl [Hx]; · iexact Hx
    iapply (upTo_miss _ f d j n hn (fun e => h (hv.mpr e))) $$ Hb

/-- One comparison, with two pieces staged if it succeeds. -/
theorem wp_pick_two (x : Rows F) (c : Dev nD) (d j : Dev nD) (n : ℕ) (hn : j.val = n) {Q : α → sProp 𝕄} {s₁ s₂ : Shape} {m₁ : Memref sig .tc .vmem s₁ .bf16} {m₂ : Memref sig .tc .vmem s₂ .bf16}
    {r₁ r₂ : Rect S1x512x2048} {r₁' : Rect s₁} {r₂' : Rect s₂}
    (hr₁ : ∀ a, r₁'.stride a = 1) (hr₂ : ∀ a, r₂'.stride a = 1)
    (f₁ : Dev nD → (r₁'.shape.Idx → Elt F .bf16)) (f₂ : Dev nD → (r₂'.shape.Idx → Elt F .bf16))
    {v : BitVec 1} (hv : v = 1#1 ↔ d = j)
    {p₁ : (r₁.shape.Idx → Elt F .bf16) → (r₁'.shape.Idx → Elt F .bf16)} (hp₁ : p₁ (xM.view.readAt (Elt F) r₁.toLoadRect (x c)) = f₁ j)
    {p₂ : (r₂.shape.Idx → Elt F .bf16) → (r₂'.shape.Idx → Elt F .bf16)} (hp₂ : p₂ (xM.view.readAt (Elt F) r₂.toLoadRect (x c)) = f₂ j)
    {hl₁ : xM.view.LoadsAt r₁.toLoadRect} {hl₁' : m₁.view.LoadsAt r₁'.toLoadRect} {hl₂ : xM.view.LoadsAt r₂.toLoadRect} {hl₂' : m₂.view.LoadsAt r₂'.toLoadRect}
    {hx₁ : (m₁.access r₁').Stores Finset.univ} {hm₁ : (Finset.univ : Finset r₁'.shape.Idx) = Finset.univ ∨ ∀ a, r₁'.stride a = 1}
    {hx₂ : (m₂.access r₂').Stores Finset.univ} {hm₂ : (Finset.univ : Finset r₂'.shape.Idx) = Finset.univ ∨ ∀ a, r₂'.stride a = 1}
    {K : Prog (TpuEff nD τ sig (Elt F) Λ₀ .tc) α} :
    iprop(rowsPts x c ∗ upTo (owns (c : Thread nD τ) (m₁.slice r₁' hr₁) fullShare) f₁ d n ∗ upTo (owns (c : Thread nD τ) (m₂.slice r₂' hr₂) fullShare) f₂ d n)
      ⊢ iprop(((rowsPts x c ∗ upTo (owns (c : Thread nD τ) (m₁.slice r₁' hr₁) fullShare) f₁ d (n + 1)
              ∗ upTo (owns (c : Thread nD τ) (m₂.slice r₂' hr₂) fullShare) f₂ d (n + 1)) -∗ runs c K Q)
          -∗ runs c (if h : v = 1#1 then
              .op (.load xM r₁.toLoadRect hl₁) fun v => .op (.load m₁ r₁'.toLoadRect hl₁') fun _ => .op (.store m₁ r₁' (p₁ v) Finset.univ hx₁ hm₁) fun _ =>
              .op (.load xM r₂.toLoadRect hl₂) fun v => .op (.load m₂ r₂'.toLoadRect hl₂') fun _ => .op (.store m₂ r₂' (p₂ v) Finset.univ hx₂ hm₂) fun _ => K
            else K) Q) := by
  by_cases h : v = 1#1
  · rw [dif_pos h]
    iintro ⟨Hx, Hb₁, Hb₂⟩ Hk
    ihave Hb₁' := (upTo_some _ f₁ d n) $$ Hb₁
    ihave Hb₂' := (upTo_some _ f₂ d n) $$ Hb₂
    iapply (wp_copy x c (m := m₁) (r := r₁) (r' := r₁') (hr := hr₁) (p := p₁)) $$ [Hx Hb₁']
    · isplitl [Hx] <;> iassumption
    iintro ⟨Hx, Hb₁⟩
    iapply (wp_copy x c (m := m₂) (r := r₂) (r' := r₂') (hr := hr₂) (p := p₂)) $$ [Hx Hb₂']
    · isplitl [Hx] <;> iassumption
    iintro ⟨Hx, Hb₂⟩
    iapply Hk
    isplitl [Hx]; · iexact Hx
    rw [hp₁, hp₂]
    isplitl [Hb₁]
    · iapply (upTo_hit _ f₁ d j n hn (hv.mp h)) $$ Hb₁
    · iapply (upTo_hit _ f₂ d j n hn (hv.mp h)) $$ Hb₂
  · rw [dif_neg h]
    iintro ⟨Hx, Hb₁, Hb₂⟩ Hk
    iapply Hk
    isplitl [Hx]; · iexact Hx
    isplitl [Hb₁]
    · iapply (upTo_miss _ f₁ d j n hn (fun e => h (hv.mpr e))) $$ Hb₁
    · iapply (upTo_miss _ f₂ d j n hn (fun e => h (hv.mpr e))) $$ Hb₂

end Pick

/-! ## The first part: the numbers -/

/-- A part of the body at the launch's own buffers. -/
abbrev onBufs {β : Type 1} (p : ∀ (arg0 : Memref sig .tc .vmem S1x512x2048 .bf16) (_ : arg0.IsWhole) (arg1 : Memref sig .tc .vmem S512x512 .bf16) (_ : arg1.IsWhole)
    (arg2 : Memref sig .tc .vmem S256x512 .bf16) (_ : arg2.IsWhole) (arg3 : Memref sig .tc .vmem S256x512 .bf16) (_ : arg3.IsWhole)
    (arg4 : Memref sig .tc .vmem S256x512 .bf16) (_ : arg4.IsWhole) (arg5 : Memref sig .tc .vmem S256x512 .bf16) (_ : arg5.IsWhole)
    (arg6 : Memref sig .tc .vmem S256x512 .bf16) (_ : arg6.IsWhole) (arg7 : Memref sig .tc .vmem S256x512 .bf16) (_ : arg7.IsWhole)
    (arg8 : Memref sig .tc .vmem S6x256x512 .bf16) (_ : arg8.IsWhole) (_ _ : DmaSems sig S6), β) : β :=
  p (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) cc0_scratch7 cc0_scratch8

/-- The first part works out the numbers of the device, of both neighbours and of the one across. -/
theorem wp_part1 (c : Dev nD) (Q : _ → sProp 𝕄) :
    Q ⟨c, wd c, wd (prv c), wd (nxt c), wd (opp c)⟩ ⊢ runs c (onBufs (k0_part1 (F := F))) Q := by
  rw [k0_part1_eq_skeleton]
  unfold onBufs k0_part1_skel
  simp only [Prog.lift, Prog.bind_op, Prog.bind_ret, Prog.pure_eq_ret, wp_deviceId, wp_ret]
  refine (Entails.of_eq (congrArg Q ?_)).trans fupd_intro
  revert c
  decide

/-! ## The second part: the signals, and the pieces for the device across -/

/-- The first barrier signal goes to the device before; -/
theorem dev_1 (c : Dev nD) : (⟨k0_dev1 c, k0_dev1_lt c⟩ : Dev nD) = prv c := by revert c; decide +kernel
/-- the second to the device after. -/
theorem dev_2 (c : Dev nD) : (⟨k0_dev2 c, k0_dev2_lt c⟩ : Dev nD) = nxt c := by revert c; decide +kernel

/-- A program that has come to its end. -/
theorem wp_end (c : Dev nD) {α : Type} {Q : α → sProp 𝕄} (v : α) : Q v ⊢ runs c (.ret v) Q := by
  unfold runs; rw [wp_ret]; exact fupd_intro

/-- The second part: both neighbours get their signal with the slots they will write; the two halves for the device
    across are staged, and the pieces for the device after, but for its last comparison. -/
theorem wp_part2 (x : Rows F) (c : Dev nD) (Q : _ → sProp 𝕄) (W : Waits sig Unit) :
    iprop((known x ∗ owes (c : Thread nD τ) (owed₀ c) W
        ∗ dutyTok ER (cellAt (prv c) .bar) 0 true ∗ dutyTok ER (cellAt (nxt c) .bar) 0 false
        ∗ (slotFree c 0 ∗ slotFree c 1 ∗ slotFree c 2 ∗ slotFree c 3 ∗ slotFree c 4 ∗ slotFree c 5)
        ∗ rowsPts x c ∗ (∃ X, srcPts c 0 X) ∗ (∃ X, srcPts c 1 X) ∗ (∃ X, srcPts c 2 X) ∗ (∃ X, srcPts c 5 X))
      ∗ ((held c 0 ∗ rowsPts x c ∗ srcPts c 0 (val x 0 c) ∗ srcPts c 1 (val x 1 c)
          ∗ upTo (srcPts c 2) (fun j => cutA j (x c)) (nxt c) 3 ∗ upTo (srcPts c 5) (fun j => cutB j (x c)) (nxt c) 3)
        -∗ Q ⟨SemArray.scalar (sig.barrier 0 rfl), Scalar.cmpi .ne (Scalar.extui (Scalar.cmpi .eq (wd (nxt c)) 3#32) : BitVec 32) 0#32⟩))
      ⊢ runs c (onBufs (k0_part2 (F := F)) c (wd (prv c)) (wd (nxt c)) (wd (opp c))) Q := by
  rw [k0_part2_eq_skeleton]
  unfold onBufs k0_part2_skel
  simp -zeta only [semSignalWord, Prog.lift, Prog.bind_op, Prog.bind_ret, Prog.pure_eq_ret]
  iintro ⟨⟨#HK, HO, Ht1, Ht2, ⟨Hf0, Hf1, Hf2, Hf3, Hf4, Hf5⟩, Hx, H0, H1, H2, H5⟩, HQ⟩
  rw [dev_1 c, dev_2 c]
  iapply (wp_notify x c (prv c) true rfl (owed₁ c) rfl (W := W) (by decide)) $$ [HO Ht1 Hf1 Hf2 Hf5]
  · isplitr; · iexact HK
    isplitl [HO]; · iexact HO
    isplitl [Ht1]; · iexact Ht1
    unfold pay
    rw [nxt_prv]
    isplitl [Hf1]; · iexact Hf1
    isplitl [Hf2] <;> iassumption
  iintro HO
  iapply (wp_notify x c (nxt c) false rfl (rest c 0) rfl (W := W) (by decide)) $$ [HO Ht2 Hf0 Hf3 Hf4]
  · isplitr; · iexact HK
    isplitl [HO]; · iexact HO
    isplitl [Ht2]; · iexact Ht2
    unfold pay
    rw [prv_nxt]
    isplitl [Hf0]; · iexact Hf0
    isplitl [Hf3] <;> iassumption
  iintro HO
  ihave H0 := (upTo_zero (srcPts c 0) (fun j => cutA j (x c)) (opp c)) $$ H0
  ihave H1 := (upTo_zero (srcPts c 1) (fun j => cutB j (x c)) (opp c)) $$ H1
  iapply (wp_pick_two x c (opp c) 0 0 rfl (m₁ := srcM 0) (m₂ := srcM 1) (fun _ => rfl) (fun _ => rfl) (fun j => cutA j (x c)) (fun j => cutB j (x c)) (test_0 _) ?_ ?_) $$ [Hx H0 H1]
  · rfl
  · rfl
  · isplitl [Hx]; · iexact Hx
    isplitl [H0]; · iexact H0
    iexact H1
  iintro ⟨Hx, H0, H1⟩
  iapply (wp_pick_two x c (opp c) 1 1 rfl (m₁ := srcM 0) (m₂ := srcM 1) (fun _ => rfl) (fun _ => rfl) (fun j => cutA j (x c)) (fun j => cutB j (x c)) (test_1 _) ?_ ?_) $$ [Hx H0 H1]
  · rfl
  · rfl
  · isplitl [Hx]; · iexact Hx
    isplitl [H0]; · iexact H0
    iexact H1
  iintro ⟨Hx, H0, H1⟩
  iapply (wp_pick_two x c (opp c) 2 2 rfl (m₁ := srcM 0) (m₂ := srcM 1) (fun _ => rfl) (fun _ => rfl) (fun j => cutA j (x c)) (fun j => cutB j (x c)) (test_2 _) ?_ ?_) $$ [Hx H0 H1]
  · rfl
  · rfl
  · isplitl [Hx]; · iexact Hx
    isplitl [H0]; · iexact H0
    iexact H1
  iintro ⟨Hx, H0, H1⟩
  iapply (wp_pick_two x c (opp c) 3 3 rfl (m₁ := srcM 0) (m₂ := srcM 1) (fun _ => rfl) (fun _ => rfl) (fun j => cutA j (x c)) (fun j => cutB j (x c)) (test_3 _) ?_ ?_) $$ [Hx H0 H1]
  · rfl
  · rfl
  · isplitl [Hx]; · iexact Hx
    isplitl [H0]; · iexact H0
    iexact H1
  iintro ⟨Hx, H0, H1⟩
  ihave H0 := (upTo_four (srcPts c 0) (fun j => cutA j (x c)) (opp c)) $$ [H0]
  · iexact H0
  ihave H1 := (upTo_four (srcPts c 1) (fun j => cutB j (x c)) (opp c)) $$ [H1]
  · iexact H1
  ihave H2 := (upTo_zero (srcPts c 2) (fun j => cutA j (x c)) (nxt c)) $$ H2
  ihave H5 := (upTo_zero (srcPts c 5) (fun j => cutB j (x c)) (nxt c)) $$ H5
  iapply (wp_pick_two x c (nxt c) 0 0 rfl (m₁ := srcM 2) (m₂ := srcM 5) (fun _ => rfl) (fun _ => rfl) (fun j => cutA j (x c)) (fun j => cutB j (x c)) (test_0 _) ?_ ?_) $$ [Hx H2 H5]
  · rfl
  · rfl
  · isplitl [Hx]; · iexact Hx
    isplitl [H2]; · iexact H2
    iexact H5
  iintro ⟨Hx, H2, H5⟩
  iapply (wp_pick_two x c (nxt c) 1 1 rfl (m₁ := srcM 2) (m₂ := srcM 5) (fun _ => rfl) (fun _ => rfl) (fun j => cutA j (x c)) (fun j => cutB j (x c)) (test_1 _) ?_ ?_) $$ [Hx H2 H5]
  · rfl
  · rfl
  · isplitl [Hx]; · iexact Hx
    isplitl [H2]; · iexact H2
    iexact H5
  iintro ⟨Hx, H2, H5⟩
  iapply (wp_pick_two x c (nxt c) 2 2 rfl (m₁ := srcM 2) (m₂ := srcM 5) (fun _ => rfl) (fun _ => rfl) (fun j => cutA j (x c)) (fun j => cutB j (x c)) (test_2 _) ?_ ?_) $$ [Hx H2 H5]
  · rfl
  · rfl
  · isplitl [Hx]; · iexact Hx
    isplitl [H2]; · iexact H2
    iexact H5
  iintro ⟨Hx, H2, H5⟩
  iapply (wp_end c _)
  iapply HQ
  isplitl [HO]; · unfold held; iexists W; iexact HO
  isplitl [Hx]; · iexact Hx
  isplitl [H0]; · iexact H0
  isplitl [H1]; · iexact H1
  isplitl [H2]; · iexact H2
  iexact H5

/-! ## The third part: the pieces for the device before, the own column, and the wait -/

/-- The result's stage, seen through the rectangle the body stores it by. -/
abbrev outPts (c : Dev nD) (X : Vec F S512x512 .bf16) : sProp 𝕄 :=
  owns (c : Thread nD τ) (oM.slice (Rect.unit (s := S512x512) ![0, 0] S512x512.size inb_S512x512_S512x512_0_0) (fun _ => rfl)) fullShare X

/-- The third part: the last comparison for the device after, the pieces for the device before, the own column in the
    result's stage; then both neighbours' signals are waited for, and the six slots they free come with them. -/
theorem wp_part3 (x : Rows F) (c : Dev nD) (Q : _ → sProp 𝕄) :
    iprop((known x ∗ levAts L lv ∗ held c 0 ∗ credit c .bar ∗ seat c .bar ∗ rowsPts x c
        ∗ upTo (srcPts c 2) (fun j => cutA j (x c)) (nxt c) 3 ∗ upTo (srcPts c 5) (fun j => cutB j (x c)) (nxt c) 3
        ∗ (∃ X, srcPts c 3 X) ∗ (∃ X, srcPts c 4 X) ∗ (∃ X, outPts c X))
      ∗ ((((slotFree (prv c) 0 ∗ slotFree (prv c) 3 ∗ slotFree (prv c) 4) ∗ slotFree (nxt c) 1 ∗ slotFree (nxt c) 2 ∗ slotFree (nxt c) 5)
          ∗ held c 0 ∗ semVal (cellAt c .bar) 0 ∗ rowsPts x c
          ∗ srcPts c 2 (cutA (nxt c) (x c)) ∗ srcPts c 5 (cutB (nxt c) (x c))
          ∗ srcPts c 3 (cutB (prv c) (x c)) ∗ srcPts c 4 (cutA (prv c) (x c)) ∗ outPts c (cutW c (x c)))
        -∗ Q ⟨⟩))
      ⊢ runs c (onBufs (k0_part3 (F := F)) (wd c) (wd (prv c)) (SemArray.scalar (sig.barrier 0 rfl))
          (Scalar.cmpi .ne (Scalar.extui (Scalar.cmpi .eq (wd (nxt c)) 3#32) : BitVec 32) 0#32)) Q := by
  rw [k0_part3_eq_skeleton]
  unfold onBufs k0_part3_skel
  simp -zeta only [semWaitWord, Prog.lift, Prog.bind_op, Prog.bind_ret, Prog.pure_eq_ret]
  iintro ⟨⟨#HK, #HL, HO, Hc, Hs, Hx, H2, H5, H3, H4, Ho⟩, HQ⟩
  iapply (wp_pick_two x c (nxt c) 3 3 rfl (m₁ := srcM 2) (m₂ := srcM 5) (fun _ => rfl) (fun _ => rfl) (fun j => cutA j (x c)) (fun j => cutB j (x c)) (test_3 _) ?_ ?_) $$ [Hx H2 H5]
  · rfl
  · rfl
  · isplitl [Hx]; · iexact Hx
    isplitl [H2]; · iexact H2
    iexact H5
  iintro ⟨Hx, H2, H5⟩
  ihave H2 := (upTo_four (srcPts c 2) (fun j => cutA j (x c)) (nxt c)) $$ [H2]
  · iexact H2
  ihave H5 := (upTo_four (srcPts c 5) (fun j => cutB j (x c)) (nxt c)) $$ [H5]
  · iexact H5
  ihave H3 := (upTo_zero (srcPts c 3) (fun j => cutB j (x c)) (prv c)) $$ H3
  ihave H4 := (upTo_zero (srcPts c 4) (fun j => cutA j (x c)) (prv c)) $$ H4
  iapply (wp_pick_two x c (prv c) 0 0 rfl (m₁ := srcM 3) (m₂ := srcM 4) (fun _ => rfl) (fun _ => rfl) (fun j => cutB j (x c)) (fun j => cutA j (x c)) (test_0 _) ?_ ?_) $$ [Hx H3 H4]
  · rfl
  · rfl
  · isplitl [Hx]; · iexact Hx
    isplitl [H3]; · iexact H3
    iexact H4
  iintro ⟨Hx, H3, H4⟩
  iapply (wp_pick_two x c (prv c) 1 1 rfl (m₁ := srcM 3) (m₂ := srcM 4) (fun _ => rfl) (fun _ => rfl) (fun j => cutB j (x c)) (fun j => cutA j (x c)) (test_1 _) ?_ ?_) $$ [Hx H3 H4]
  · rfl
  · rfl
  · isplitl [Hx]; · iexact Hx
    isplitl [H3]; · iexact H3
    iexact H4
  iintro ⟨Hx, H3, H4⟩
  iapply (wp_pick_two x c (prv c) 2 2 rfl (m₁ := srcM 3) (m₂ := srcM 4) (fun _ => rfl) (fun _ => rfl) (fun j => cutB j (x c)) (fun j => cutA j (x c)) (test_2 _) ?_ ?_) $$ [Hx H3 H4]
  · rfl
  · rfl
  · isplitl [Hx]; · iexact Hx
    isplitl [H3]; · iexact H3
    iexact H4
  iintro ⟨Hx, H3, H4⟩
  iapply (wp_pick_two x c (prv c) 3 3 rfl (m₁ := srcM 3) (m₂ := srcM 4) (fun _ => rfl) (fun _ => rfl) (fun j => cutB j (x c)) (fun j => cutA j (x c)) (test_3 _) ?_ ?_) $$ [Hx H3 H4]
  · rfl
  · rfl
  · isplitl [Hx]; · iexact Hx
    isplitl [H3]; · iexact H3
    iexact H4
  iintro ⟨Hx, H3, H4⟩
  ihave H3 := (upTo_four (srcPts c 3) (fun j => cutB j (x c)) (prv c)) $$ [H3]
  · iexact H3
  ihave H4 := (upTo_four (srcPts c 4) (fun j => cutA j (x c)) (prv c)) $$ [H4]
  · iexact H4
  ihave Ho := (upTo_zero (outPts c) (fun j => cutW j (x c)) c) $$ Ho
  iapply (wp_pick_one x c c 0 0 rfl (m := oM) (fun _ => rfl) (fun j => cutW j (x c)) (test_0 _) ?_) $$ [Hx Ho]
  · rfl
  · isplitl [Hx]; · iexact Hx
    iexact Ho
  iintro ⟨Hx, Ho⟩
  iapply (wp_pick_one x c c 1 1 rfl (m := oM) (fun _ => rfl) (fun j => cutW j (x c)) (test_1 _) ?_) $$ [Hx Ho]
  · rfl
  · isplitl [Hx]; · iexact Hx
    iexact Ho
  iintro ⟨Hx, Ho⟩
  iapply (wp_pick_one x c c 2 2 rfl (m := oM) (fun _ => rfl) (fun j => cutW j (x c)) (test_2 _) ?_) $$ [Hx Ho]
  · rfl
  · isplitl [Hx]; · iexact Hx
    iexact Ho
  iintro ⟨Hx, Ho⟩
  iapply (wp_pick_one x c c 3 3 rfl (m := oM) (fun _ => rfl) (fun j => cutW j (x c)) (test_3 _) ?_) $$ [Hx Ho]
  · rfl
  · isplitl [Hx]; · iexact Hx
    iexact Ho
  iintro ⟨Hx, Ho⟩
  ihave Ho := (upTo_four (outPts c) (fun j => cutW j (x c)) c) $$ [Ho]
  · iexact Ho
  iapply (wp_await_bar x c rfl (by decide)) $$ [HO Hc Hs]
  · isplitr; · iexact HK
    isplitr; · iexact HL
    isplitl [Hc]; · iexact Hc
    isplitl [HO]; · iexact HO
    iexact Hs
  iintro ⟨Hfree, HO, Hz⟩
  iapply (wp_end c _)
  iapply HQ
  isplitl [Hfree]; · iexact Hfree
  isplitl [HO]; · iexact HO
  isplitl [Hz]; · iexact Hz
  isplitl [Hx]; · iexact Hx
  isplitl [H2]; · iexact H2
  isplitl [H5]; · iexact H5
  isplitl [H3]; · iexact H3
  isplitl [H4]; · iexact H4
  iexact Ho

end Cert.RingSum
-- ==== Proof.Comm.lean ====
/-
# Copies, sums and waits

The rest of the body, part by part: the first four copies start, the two sums that travel on are formed and sent, then
the four that have arrived for good are added to the own column, and the six sends are waited for.
-/
module

public import proofs.«01_k».proof.Proof.Stage

@[expose] public section

noncomputable section

namespace Cert.RingSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What goes with a copy -/

/-- All that device `c` needs to start copy `k`. -/
def ready (x : Rows F) (c : Dev nD) (k : Fin 6) : sProp 𝕄 := iprop(srcPts c k (val x k c) ∗ slotFree (tgt k c) k ∗ ticket c k)
/-- What device `c` needs to wait for the copy `k` that comes to it. -/
def coming (c : Dev nD) (k : Fin 6) : sProp 𝕄 := iprop(credit c (.rcv k) ∗ seat c (.rcv k))
/-- The copy `k` that came to device `c`, and its semaphore at zero. -/
def came (x : Rows F) (c : Dev nD) (k : Fin 6) : sProp 𝕄 := iprop(slotPts c k (val x k (org k c)) ∗ semVal (cellAt c (.rcv k)) 0)
/-- What device `c` needs to wait for the end of its sending of copy `k`. -/
def gone (c : Dev nD) (k : Fin 6) : sProp 𝕄 := iprop(credit c (.snd k) ∗ seat c (.snd k))
/-- The source of device `c`'s copy `k` given back, and its semaphore at zero. -/
def back (x : Rows F) (c : Dev nD) (k : Fin 6) : sProp 𝕄 := iprop(srcPts c k (val x k c) ∗ semVal (cellAt c (.snd k)) 0)

/-- The copies' targets, as the body computes them. -/
theorem dev_3 (c : Dev nD) : (⟨k0_dev3 c, k0_dev3_lt c⟩ : Dev nD) = tgt 0 c := by revert c; decide +kernel
theorem dev_4 (c : Dev nD) : (⟨k0_dev4 c, k0_dev4_lt c⟩ : Dev nD) = tgt 1 c := by revert c; decide +kernel
theorem dev_5 (c : Dev nD) : (⟨k0_dev5 c, k0_dev5_lt c⟩ : Dev nD) = tgt 2 c := by revert c; decide +kernel
theorem dev_6 (c : Dev nD) : (⟨k0_dev6 c, k0_dev6_lt c⟩ : Dev nD) = tgt 3 c := by revert c; decide +kernel
theorem dev_7 (c : Dev nD) : (⟨k0_dev7 c, k0_dev7_lt c⟩ : Dev nD) = tgt 4 c := by revert c; decide +kernel
theorem dev_8 (c : Dev nD) : (⟨k0_dev8 c, k0_dev8_lt c⟩ : Dev nD) = tgt 5 c := by revert c; decide +kernel

section Steps
variable {α : Type}

/-- Starting copy `k`, the `i`-th of the six, with all that it needs. -/
theorem wp_start (x : Rows F) (c : Dev nD) (k : Fin 6) (i : ℕ) (hi : k.val = i) (n : Dev nD) (hn : n = tgt k c)
    {src dst : Memref sig .tc .vmem S256x512 .bf16} (hs : src = srcV k) (hd : dst = slotM k) {sS sR : SemLoc sig}
    (hS : sS = csem (.snd k)) (hR : sR = csem (.rcv k))
    {hsc : (dst : Memref sig (Dev.tc n : Thread nD τ).2.kind .vmem S256x512 .bf16).view.ref.isScScratch = false}
    {hsrc : src.view.WordExact} {hdst : dst.view.WordExact}
    {hsem : DmaTarget.Typed .vmem sR (.remote (Dev.tc n : Thread nD τ) (dst : Memref sig .tc .vmem S256x512 .bf16) sS hsc)}
    {Q : α → sProp 𝕄} {K : PUnit → Prog (TpuEff nD τ sig (Elt F) Λ₀ .tc) α} :
    iprop((known x ∗ seat c (.snd k)) ∗ held c i ∗ ready x c k)
      ⊢ iprop(((held c (i + 1) ∗ gone c k) -∗ runs c (K ⟨⟩) Q)
          -∗ runs c (.op (.enqueueDma src (.remote (Dev.tc n : Thread nD τ) dst sS hsc) sR hsrc hdst hsem) K) Q) := by
  subst hi
  unfold ready gone
  iintro ⟨⟨#HK, Hseat⟩, HO, Hsrc, Hfree, Ht⟩ Hk
  iapply (wp_put x k c n hn hs hd rfl hS hR) $$ [HO Hsrc Hfree Ht]
  · isplitr; · iexact HK
    isplitl [Hsrc]; · iexact Hsrc
    isplitl [Hfree]; · iexact Hfree
    isplitl [HO]; · iexact HO
    iexact Ht
  iintro ⟨Hc, HO⟩
  iapply Hk
  isplitl [HO]; · iexact HO
  isplitl [Hc]; · iexact Hc
  iexact Hseat

/-- The wait for the copy `k` that comes, with copies `0, …, j-1` started. -/
theorem wp_arrive (x : Rows F) (c : Dev nD) (k : Fin 6) (j : ℕ) (hj : ∀ i : Fin 6, j ≤ i.val → level (.rcv k) < level (.rcv i))
    {sem : DmaSem sig} (hs : sem = rcvS k) {src dst : Memref sig .tc .vmem S256x512 .bf16} (hN : dst.view.dmaCredit = N)
    {hsrc : src.view.WordExact} {hdst : dst.view.WordExact}
    {Q : α → sProp 𝕄} {K : PUnit → Prog (TpuEff nD τ sig (Elt F) Λ₀ .tc) α} :
    iprop(known x ∗ levAts L lv ∗ held c j ∗ coming c k)
      ⊢ iprop(((held c j ∗ slotPts c k (val x k (org k c)) ∗ semVal (cellAt c (.rcv k)) 0) -∗ runs c (K ⟨⟩) Q)
          -∗ runs c (.op (.waitDma2 sem src dst hsrc hdst) K) Q) := by
  unfold coming
  iintro ⟨#HK, #HL, HO, Hc, Hs⟩ Hk
  iapply (wp_await_rcv x c k j hj hs hN) $$ [HO Hc Hs]
  · isplitr; · iexact HK
    isplitr; · iexact HL
    isplitl [Hc]; · iexact Hc
    isplitl [HO]; · iexact HO
    iexact Hs
  iintro ⟨Hp, HO, Hz⟩
  iapply Hk
  isplitl [HO]; · iexact HO
  isplitl [Hp]; · iexact Hp
  iexact Hz

/-- The wait for the end of the sending of copy `k`. -/
theorem wp_leave (x : Rows F) (c : Dev nD) (k : Fin 6)
    {sem : DmaSem sig} (hs : sem = sndS k) {src dst : Memref sig .tc .vmem S256x512 .bf16} (hN : dst.view.dmaCredit = N)
    {hsrc : src.view.WordExact} {hdst : dst.view.WordExact}
    {Q : α → sProp 𝕄} {K : PUnit → Prog (TpuEff nD τ sig (Elt F) Λ₀ .tc) α} :
    iprop(known x ∗ levAts L lv ∗ held c 6 ∗ gone c k)
      ⊢ iprop(((held c 6 ∗ back x c k) -∗ runs c (K ⟨⟩) Q) -∗ runs c (.op (.waitDma2 sem src dst hsrc hdst) K) Q) := by
  unfold gone back
  iintro ⟨#HK, #HL, HO, Hc, Hs⟩ Hk
  iapply (wp_await_snd x c k hs hN) $$ [HO Hc Hs]
  · isplitr; · iexact HK
    isplitr; · iexact HL
    isplitl [Hc]; · iexact Hc
    isplitl [HO]; · iexact HO
    iexact Hs
  iintro ⟨Hp, HO, Hz⟩
  iapply Hk
  isplitl [HO]; · iexact HO
  isplitl [Hp]; · iexact Hp
  iexact Hz

end Steps

/-! ## The first four copies, and the two sums that travel on -/

/-- The fourth part starts copies 0, 1 and 2. -/
theorem wp_part4 (x : Rows F) (c : Dev nD) (Q : _ → sProp 𝕄) :
    iprop((known x ∗ held c 0 ∗ (seat c (.snd 0) ∗ seat c (.snd 1) ∗ seat c (.snd 2)) ∗ ready x c 0 ∗ ready x c 1 ∗ ready x c 2)
      ∗ ((held c 3 ∗ gone c 0 ∗ gone c 1 ∗ gone c 2) -∗ Q ⟨⟩))
      ⊢ runs c (onBufs (k0_part4 (F := F)) c (wd (prv c)) (wd (nxt c))) Q := by
  rw [k0_part4_eq_skeleton]
  unfold onBufs k0_part4_skel
  simp -zeta only [Prog.lift, Prog.bind_op, Prog.bind_ret, Prog.pure_eq_ret]
  iintro ⟨⟨#HK, HO, ⟨Hs0, Hs1, Hs2⟩, H0, H1, H2⟩, HQ⟩
  iapply (wp_start x c 0 0 rfl _ (dev_3 c) rfl rfl rfl rfl) $$ [HO Hs0 H0]
  · isplitl [Hs0]
    · isplitr; · iexact HK
      iexact Hs0
    isplitl [HO]; · iexact HO
    iexact H0
  iintro ⟨HO, H0⟩
  iapply (wp_start x c 1 1 rfl _ (dev_4 c) rfl rfl rfl rfl) $$ [HO Hs1 H1]
  · isplitl [Hs1]
    · isplitr; · iexact HK
      iexact Hs1
    isplitl [HO]; · iexact HO
    iexact H1
  iintro ⟨HO, H1⟩
  iapply (wp_start x c 2 2 rfl _ (dev_5 c) rfl rfl rfl rfl) $$ [HO Hs2 H2]
  · isplitl [Hs2]
    · isplitr; · iexact HK
      iexact Hs2
    isplitl [HO]; · iexact HO
    iexact H2
  iintro ⟨HO, H2⟩
  iapply (wp_end c _)
  iapply HQ
  isplitl [HO]; · iexact HO
  isplitl [H0]; · iexact H0
  isplitl [H1]; · iexact H1
  iexact H2

/-- The fifth part starts copy 3, waits for copy 0, adds what came to the piece for the device before, and starts
    copy 4 with the sum. -/
theorem wp_part5 (x : Rows F) (c : Dev nD) (Q : _ → sProp 𝕄) :
    iprop((known x ∗ levAts L lv ∗ held c 3 ∗ (seat c (.snd 3) ∗ seat c (.snd 4)) ∗ ready x c 3 ∗ coming c 0
        ∗ srcPts c 4 (cutA (prv c) (x c)) ∗ slotFree (tgt 4 c) 4 ∗ ticket c 4)
      ∗ ((held c 5 ∗ gone c 3 ∗ gone c 4 ∗ came x c 0) -∗ Q ⟨⟩))
      ⊢ runs c (onBufs (k0_part5 (F := F)) c (wd (prv c))) Q := by
  rw [k0_part5_eq_skeleton]
  unfold onBufs k0_part5_skel
  simp -zeta only [Prog.lift, Prog.bind_op, Prog.bind_ret, Prog.pure_eq_ret]
  iintro ⟨⟨#HK, #HL, HO, ⟨Hs3, Hs4⟩, H3, Hc0, Hsrc, Hfree, Ht⟩, HQ⟩
  iapply (wp_start x c 3 3 rfl _ (dev_6 c) rfl rfl rfl rfl) $$ [HO Hs3 H3]
  · isplitl [Hs3]
    · isplitr; · iexact HK
      iexact Hs3
    isplitl [HO]; · iexact HO
    iexact H3
  iintro ⟨HO, H3⟩
  iapply (wp_arrive x c 0 4 (by decide) rfl ?_) $$ [HO Hc0]
  · rfl
  · isplitr; · iexact HK
    isplitr; · iexact HL
    isplitl [HO]; · iexact HO
    iexact Hc0
  iintro ⟨HO, Hp0, Hz0⟩
  iapply (wp_load_slice c (m := srcM 4) (hr := fun _ => rfl)) $$ Hsrc; iintro Hsrc
  iapply (wp_load_squeezed c (m := rM) (hr := fun _ => rfl) (hs := squeezes_S1x256x512_S256x512)) $$ Hp0; iintro Hp0
  iapply (wp_load_slice c (m := srcM 4) (hr := fun _ => rfl)) $$ Hsrc; iintro Hsrc
  iapply (wp_store_slice c (m := srcM 4) (hr := fun _ => rfl)) $$ Hsrc; iintro Hsrc
  ihave H4 : ready x c 4 $$ [Hsrc Hfree Ht]
  · unfold ready
    isplitl [Hsrc]; · iexact Hsrc
    isplitl [Hfree] <;> iassumption
  iapply (wp_start x c 4 4 rfl _ (dev_7 c) rfl rfl rfl rfl) $$ [HO Hs4 H4]
  · isplitl [Hs4]
    · isplitr; · iexact HK
      iexact Hs4
    isplitl [HO]; · iexact HO
    iexact H4
  iintro ⟨HO, H4⟩
  iapply (wp_end c _)
  iapply HQ
  isplitl [HO]; · iexact HO
  isplitl [H3]; · iexact H3
  isplitl [H4]; · iexact H4
  unfold came
  isplitl [Hp0] <;> iassumption

/-- The sixth part does the same on the other side: it waits for copy 1, and starts copy 5 with the sum. -/
theorem wp_part6 (x : Rows F) (c : Dev nD) (Q : _ → sProp 𝕄) :
    iprop((known x ∗ levAts L lv ∗ held c 5 ∗ seat c (.snd 5) ∗ coming c 1
        ∗ srcPts c 5 (cutB (nxt c) (x c)) ∗ slotFree (tgt 5 c) 5 ∗ ticket c 5)
      ∗ ((held c 6 ∗ gone c 5 ∗ came x c 1) -∗ Q ⟨⟩))
      ⊢ runs c (onBufs (k0_part6 (F := F)) c (wd (nxt c))) Q := by
  rw [k0_part6_eq_skeleton]
  unfold onBufs k0_part6_skel
  simp -zeta only [Prog.lift, Prog.bind_op, Prog.bind_ret, Prog.pure_eq_ret]
  iintro ⟨⟨#HK, #HL, HO, Hs5, Hc1, Hsrc, Hfree, Ht⟩, HQ⟩
  iapply (wp_arrive x c 1 5 (by decide) rfl ?_) $$ [HO Hc1]
  · rfl
  · isplitr; · iexact HK
    isplitr; · iexact HL
    isplitl [HO]; · iexact HO
    iexact Hc1
  iintro ⟨HO, Hp1, Hz1⟩
  iapply (wp_load_slice c (m := srcM 5) (hr := fun _ => rfl)) $$ Hsrc; iintro Hsrc
  iapply (wp_load_squeezed c (m := rM) (hr := fun _ => rfl) (hs := squeezes_S1x256x512_S256x512)) $$ Hp1; iintro Hp1
  iapply (wp_load_slice c (m := srcM 5) (hr := fun _ => rfl)) $$ Hsrc; iintro Hsrc
  iapply (wp_store_slice c (m := srcM 5) (hr := fun _ => rfl)) $$ Hsrc; iintro Hsrc
  ihave H5 : ready x c 5 $$ [Hsrc Hfree Ht]
  · unfold ready
    isplitl [Hsrc]; · iexact Hsrc
    isplitl [Hfree] <;> iassumption
  iapply (wp_start x c 5 5 rfl _ (dev_8 c) rfl rfl rfl rfl) $$ [HO Hs5 H5]
  · isplitl [Hs5]
    · isplitr; · iexact HK
      iexact Hs5
    isplitl [HO]; · iexact HO
    iexact H5
  iintro ⟨HO, H5⟩
  iapply (wp_end c _)
  iapply HQ
  isplitl [HO]; · iexact HO
  isplitl [H5]; · iexact H5
  unfold came
  isplitl [Hp1] <;> iassumption

/-! ## The result -/

/-- The rows of half A and of half B in the result's stage. -/
abbrev rectTop : Rect S512x512 := Rect.unit (s := S512x512) ![0, 0] S256x512.size inb_S512x512_S256x512_0_0
abbrev rectBot : Rect S512x512 := Rect.unit (s := S512x512) ![256, 0] S256x512.size inb_S512x512_S256x512_256_0

/-- The result's stage at device `c`. -/
abbrev colPts (c : Dev nD) (f : (cc0_stg1_0 : Ref sig .tc).ty.Contents (Elt F)) : sProp 𝕄 :=
  iprop(((c : Thread nD τ).loc cc0_stg1_0) ↦{fullShare} f)

/-- A column with two more pieces added to half A. -/
def addTop (f : (cc0_stg1_0 : Ref sig .tc).ty.Contents (Elt F)) (d s : Vec F S256x512 .bf16) : (cc0_stg1_0 : Ref sig .tc).ty.Contents (Elt F) :=
  (oM.access rectTop : View sig .tc _ _ _).write (Elt F) f (k0_pay31 (oM.view.readAt (Elt F) rectTop.toLoadRect f) (lift d) (lift s)) Finset.univ
/-- A column with two more pieces added to half B. -/
def addBot (f : (cc0_stg1_0 : Ref sig .tc).ty.Contents (Elt F)) (d s : Vec F S256x512 .bf16) : (cc0_stg1_0 : Ref sig .tc).ty.Contents (Elt F) :=
  (oM.access rectBot : View sig .tc _ _ _).write (Elt F) f (k0_pay32 (oM.view.readAt (Elt F) rectBot.toLoadRect f) (lift d) (lift s)) Finset.univ

/-- Device `c`'s column after the first two additions, -/
def topAt (x : Rows F) (c : Dev nD) : (cc0_stg1_0 : Ref sig .tc).ty.Contents (Elt F) :=
  addTop (cutW c (x c)) (val x 2 (org 2 c)) (val x 4 (org 4 c))
/-- and after all: the result. -/
def outAt (x : Rows F) (c : Dev nD) : (cc0_stg1_0 : Ref sig .tc).ty.Contents (Elt F) :=
  addBot (topAt x c) (val x 3 (org 3 c)) (val x 5 (org 5 c))

/-- A rectangle of a buffer's own sizes is all of the buffer. -/
theorem slice_all (b : Ref sig .tc) (off : Fin b.ty.shape.rank → ℕ) (inb : ∀ a, off a + b.ty.shape.size a ≤ b.ty.shape.size a) :
    ((View.whole b).slice (Rect.unit off b.ty.shape.size inb)).set = Finset.univ :=
  Finset.eq_univ_of_card _ ((View.card_set _).trans (Shape.card_idx _).symm)

/-- A buffer seen through such a rectangle, -/
theorem owns_all (c : Dev nD) (b : Ref sig .tc) (off : Fin b.ty.shape.rank → ℕ) (inb : ∀ a, off a + b.ty.shape.size a ≤ b.ty.shape.size a) (hr) :
    (iprop(∃ f : Buf (Elt F) ((c : Thread nD τ).loc b), ((c : Thread nD τ).loc b) ↦{fullShare} f) : sProp 𝕄)
      ⊢ iprop(∃ X, owns (c : Thread nD τ) ((Memref.whole b).slice (Rect.unit off b.ty.shape.size inb) hr) fullShare X) := by
  iintro ⟨%f, H⟩
  iexists (((Memref.whole b).slice (Rect.unit off b.ty.shape.size inb) hr).view.read (Elt F) f)
  iapply (owns_intro _ _ _ _)
  ihave H := (Entails.of_eq (congrArg (fun S => iprop(((c : Thread nD τ).loc b) ↦[S]{fullShare} f)) (slice_all b off inb).symm)) $$ H
  iexact H

/-- and back. -/
theorem all_owns (c : Dev nD) (b : Ref sig .tc) (off : Fin b.ty.shape.rank → ℕ) (inb : ∀ a, off a + b.ty.shape.size a ≤ b.ty.shape.size a) (hr) (X) :
    (owns (c : Thread nD τ) ((Memref.whole b).slice (Rect.unit off b.ty.shape.size inb) hr) fullShare X : sProp 𝕄)
      ⊢ iprop(∃ f : Buf (Elt F) ((c : Thread nD τ).loc b), ⌜((Memref.whole b).slice (Rect.unit off b.ty.shape.size inb) hr).view.read (Elt F) f = X⌝ ∗ ((c : Thread nD τ).loc b) ↦{fullShare} f) := by
  unfold owns
  iintro ⟨%f, %hf, H⟩
  iexists f
  isplitr; · ipureintro; exact hf
  ihave H := (Entails.of_eq (congrArg (fun S => iprop(((c : Thread nD τ).loc b) ↦[S]{fullShare} f)) (slice_all b off inb))) $$ H
  iexact H

/-- The result's stage through the rectangle that is all of it. -/
theorem outPts_col (c : Dev nD) (X : Vec F S512x512 .bf16) : outPts c X ⊢ colPts c X := by
  have hz : (![0, 0] : Fin 2 → ℕ) = fun _ => 0 := funext fun a => by fin_cases a <;> rfl
  refine (all_owns c cc0_stg1_0 ![0, 0] inb_S512x512_S512x512_0_0 (fun _ => rfl) X).trans ?_
  iintro ⟨%f, %hf, H⟩
  have e : f = X := (Memref.readAt_unit_zero (Elt F) cc0_stg1_0 hz inb_S512x512_S512x512_0_0 f).symm.trans hf
  subst e
  iexact H

/-- The seventh part waits for copies 2 and 4 and adds both to half A of the own column. -/
theorem wp_part7 (x : Rows F) (c : Dev nD) (Q : _ → sProp 𝕄) :
    iprop((known x ∗ levAts L lv ∗ held c 6 ∗ coming c 2 ∗ coming c 4 ∗ colPts c (cutW c (x c)))
      ∗ ((held c 6 ∗ came x c 2 ∗ came x c 4 ∗ colPts c (topAt x c)) -∗ Q ⟨⟩))
      ⊢ runs c (onBufs (k0_part7 (F := F)) (wd (prv c))) Q := by
  rw [k0_part7_eq_skeleton]
  unfold onBufs k0_part7_skel
  simp -zeta only [Prog.lift, Prog.bind_op, Prog.bind_ret, Prog.pure_eq_ret]
  iintro ⟨⟨#HK, #HL, HO, H2, H4, Ho⟩, HQ⟩
  iapply (wp_arrive x c 2 6 (by decide) rfl ?_) $$ [HO H2]
  · rfl
  · isplitr; · iexact HK
    isplitr; · iexact HL
    isplitl [HO]; · iexact HO
    iexact H2
  iintro ⟨HO, Hp2, Hz2⟩
  iapply (wp_arrive x c 4 6 (by decide) rfl ?_) $$ [HO H4]
  · rfl
  · isplitr; · iexact HK
    isplitr; · iexact HL
    isplitl [HO]; · iexact HO
    iexact H4
  iintro ⟨HO, Hp4, Hz4⟩
  iapply (wp_load 𝒱₀ (c : Thread nD τ) none Set.univ (m := oM) (Finset.subset_univ _)) $$ Ho; iintro Ho
  iapply (wp_load_squeezed c (m := rM) (hr := fun _ => rfl) (hs := squeezes_S1x256x512_S256x512)) $$ Hp2; iintro Hp2
  iapply (wp_load_squeezed c (m := rM) (hr := fun _ => rfl) (hs := squeezes_S1x256x512_S256x512)) $$ Hp4; iintro Hp4
  iapply (wp_load 𝒱₀ (c : Thread nD τ) none Set.univ (m := oM) (Finset.subset_univ _)) $$ Ho; iintro Ho
  iapply (wp_store 𝒱₀ (c : Thread nD τ) none Set.univ (m := oM) (r := rectTop) (Mk := Finset.univ) (Finset.subset_univ _)) $$ Ho; iintro Ho
  iapply (wp_end c _)
  iapply HQ
  unfold came
  isplitl [HO]; · iexact HO
  isplitl [Hp2 Hz2]
  · isplitl [Hp2] <;> iassumption
  isplitl [Hp4 Hz4]
  · isplitl [Hp4] <;> iassumption
  iexact Ho

/-- The eighth part does the same with copies 3 and 5 and half B, and waits for the end of the sending of copy 0. -/
theorem wp_part8 (x : Rows F) (c : Dev nD) (Q : _ → sProp 𝕄) :
    iprop((known x ∗ levAts L lv ∗ held c 6 ∗ coming c 3 ∗ coming c 5 ∗ colPts c (topAt x c) ∗ gone c 0)
      ∗ ((held c 6 ∗ came x c 3 ∗ came x c 5 ∗ colPts c (outAt x c) ∗ back x c 0) -∗ Q ⟨⟩))
      ⊢ runs c (onBufs (k0_part8 (F := F)) (wd (nxt c))) Q := by
  rw [k0_part8_eq_skeleton]
  unfold onBufs k0_part8_skel
  simp -zeta only [Prog.lift, Prog.bind_op, Prog.bind_ret, Prog.pure_eq_ret]
  iintro ⟨⟨#HK, #HL, HO, H3, H5, Ho, H0⟩, HQ⟩
  iapply (wp_arrive x c 3 6 (by decide) rfl ?_) $$ [HO H3]
  · rfl
  · isplitr; · iexact HK
    isplitr; · iexact HL
    isplitl [HO]; · iexact HO
    iexact H3
  iintro ⟨HO, Hp3, Hz3⟩
  iapply (wp_arrive x c 5 6 (by decide) rfl ?_) $$ [HO H5]
  · rfl
  · isplitr; · iexact HK
    isplitr; · iexact HL
    isplitl [HO]; · iexact HO
    iexact H5
  iintro ⟨HO, Hp5, Hz5⟩
  iapply (wp_load 𝒱₀ (c : Thread nD τ) none Set.univ (m := oM) (Finset.subset_univ _)) $$ Ho; iintro Ho
  iapply (wp_load_squeezed c (m := rM) (hr := fun _ => rfl) (hs := squeezes_S1x256x512_S256x512)) $$ Hp3; iintro Hp3
  iapply (wp_load_squeezed c (m := rM) (hr := fun _ => rfl) (hs := squeezes_S1x256x512_S256x512)) $$ Hp5; iintro Hp5
  iapply (wp_load 𝒱₀ (c : Thread nD τ) none Set.univ (m := oM) (Finset.subset_univ _)) $$ Ho; iintro Ho
  iapply (wp_store 𝒱₀ (c : Thread nD τ) none Set.univ (m := oM) (r := rectBot) (Mk := Finset.univ) (Finset.subset_univ _)) $$ Ho; iintro Ho
  iapply (wp_leave x c 0 rfl ?_) $$ [HO H0]
  · rfl
  · isplitr; · iexact HK
    isplitr; · iexact HL
    isplitl [HO]; · iexact HO
    iexact H0
  iintro ⟨HO, H0⟩
  iapply (wp_end c _)
  iapply HQ
  unfold came
  isplitl [HO]; · iexact HO
  isplitl [Hp3 Hz3]
  · isplitl [Hp3] <;> iassumption
  isplitl [Hp5 Hz5]
  · isplitl [Hp5] <;> iassumption
  isplitl [Ho]; · iexact Ho
  iexact H0

/-- The ninth part waits for the end of the sending of copies 1 to 4. -/
theorem wp_part9 (x : Rows F) (c : Dev nD) (Q : _ → sProp 𝕄) :
    iprop((known x ∗ levAts L lv ∗ held c 6 ∗ gone c 1 ∗ gone c 2 ∗ gone c 3 ∗ gone c 4)
      ∗ ((held c 6 ∗ back x c 1 ∗ back x c 2 ∗ back x c 3 ∗ back x c 4) -∗ Q ⟨⟩))
      ⊢ runs c (onBufs (k0_part9 (F := F))) Q := by
  rw [k0_part9_eq_skeleton]
  unfold onBufs k0_part9_skel
  simp -zeta only [Prog.lift, Prog.bind_op, Prog.bind_ret, Prog.pure_eq_ret]
  iintro ⟨⟨#HK, #HL, HO, H1, H2, H3, H4⟩, HQ⟩
  iapply (wp_leave x c 1 rfl ?_) $$ [HO H1]
  · rfl
  · isplitr; · iexact HK
    isplitr; · iexact HL
    isplitl [HO]; · iexact HO
    iexact H1
  iintro ⟨HO, H1⟩
  iapply (wp_leave x c 2 rfl ?_) $$ [HO H2]
  · rfl
  · isplitr; · iexact HK
    isplitr; · iexact HL
    isplitl [HO]; · iexact HO
    iexact H2
  iintro ⟨HO, H2⟩
  iapply (wp_leave x c 3 rfl ?_) $$ [HO H3]
  · rfl
  · isplitr; · iexact HK
    isplitr; · iexact HL
    isplitl [HO]; · iexact HO
    iexact H3
  iintro ⟨HO, H3⟩
  iapply (wp_leave x c 4 rfl ?_) $$ [HO H4]
  · rfl
  · isplitr; · iexact HK
    isplitr; · iexact HL
    isplitl [HO]; · iexact HO
    iexact H4
  iintro ⟨HO, H4⟩
  iapply (wp_end c _)
  iapply HQ
  isplitl [HO]; · iexact HO
  isplitl [H1]; · iexact H1
  isplitl [H2]; · iexact H2
  isplitl [H3] <;> iassumption

/-! ## The whole body -/

/-- Six things, one for each copy. -/
abbrev six (Φ : Fin 6 → sProp 𝕄) : sProp 𝕄 := iprop(Φ 0 ∗ Φ 1 ∗ Φ 2 ∗ Φ 3 ∗ Φ 4 ∗ Φ 5)

/-- What device `c` has at the start of the body, the two stages and its debts apart. -/
def before (x : Rows F) (c : Dev nD) : sProp 𝕄 :=
  iprop(known x ∗ levAts L lv ∗ (dutyTok ER (cellAt (prv c) .bar) 0 true ∗ dutyTok ER (cellAt (nxt c) .bar) 0 false)
    ∗ (credit c .bar ∗ seat c .bar) ∗ six (ticket c) ∗ six (fun k => seat c (.snd k)) ∗ six (coming c)
    ∗ six (slotFree c) ∗ six (fun k => iprop(∃ X, srcPts c k X)))

/-- What it has at the end. -/
def after (x : Rows F) (c : Dev nD) : sProp 𝕄 :=
  iprop(semVal (cellAt c .bar) 0 ∗ six (came x c) ∗ six (back x c))

/-- One program after another. -/
theorem wp_seq (c : Dev nD) {α β : Type} {p : Prog (TpuEff nD τ sig (Elt F) Λ₀ .tc) α} {k : α → Prog (TpuEff nD τ sig (Elt F) Λ₀ .tc) β} {Q : β → sProp 𝕄} :
    runs c p (fun a => runs c (k a) Q) ⊢ runs c (p >>= k) Q := by
  unfold runs; rw [wp_bind]

/-- A copy's source, slot and rights together. -/
theorem ready_intro (x : Rows F) (c d : Dev nD) (k : Fin 6) (X : Vec F S256x512 .bf16) (hd : tgt k c = d) (hX : val x k c = X) :
    iprop(srcPts c k X ∗ slotFree d k ∗ ticket c k) ⊢ ready x c k := by
  subst hd; subst hX; exact Entails.refl _

/-- The body on device `c`, from `before` and the two stages to `after`, with the result's stage holding the result. -/
theorem wp_body (x : Rows F) (c : Dev nD) (W : Waits sig Unit) (Q : PUnit → sProp 𝕄) :
    iprop((before x c ∗ owes (c : Thread nD τ) (owed₀ c) W ∗ rowsPts x c ∗ (∃ X, outPts c X))
      ∗ ((after x c ∗ held c 6 ∗ rowsPts x c ∗ colPts c (outAt x c)) -∗ Q ⟨⟩))
      ⊢ runs c (onBufs (cc0_body (F := F))) Q := by
  rw [cc0_body_eq_skeleton]
  unfold onBufs cc0_body_skel before after
  iintro ⟨⟨⟨#HK, #HL, ⟨Ht1, Ht2⟩, ⟨Hcb, Hsb⟩, ⟨T0, T1, T2, T3, T4, T5⟩, ⟨S0, S1, S2, S3, S4, S5⟩, ⟨C0, C1, C2, C3, C4, C5⟩, Hfree, ⟨X0, X1, X2, X3, X4, X5⟩⟩,
    HO, Hx, Ho⟩, HQ⟩
  iapply (wp_seq c)
  iapply (wp_part1 c _)
  iapply (wp_seq c)
  iapply (wp_part2 x c _ W)
  isplitl [HO Ht1 Ht2 Hfree Hx X0 X1 X2 X5]
  · isplitr; · iexact HK
    isplitl [HO]; · iexact HO
    isplitl [Ht1]; · iexact Ht1
    isplitl [Ht2]; · iexact Ht2
    isplitl [Hfree]; · iexact Hfree
    isplitl [Hx]; · iexact Hx
    isplitl [X0]; · iexact X0
    isplitl [X1]; · iexact X1
    isplitl [X2] <;> iassumption
  iintro ⟨HO, Hx, X0, X1, X2, X5⟩
  iapply (wp_seq c)
  iapply (wp_part3 x c _)
  isplitl [HO Hcb Hsb Hx X2 X5 X3 X4 Ho]
  · isplitr; · iexact HK
    isplitr; · iexact HL
    isplitl [HO]; · iexact HO
    isplitl [Hcb]; · iexact Hcb
    isplitl [Hsb]; · iexact Hsb
    isplitl [Hx]; · iexact Hx
    isplitl [X2]; · iexact X2
    isplitl [X5]; · iexact X5
    isplitl [X3]; · iexact X3
    isplitl [X4] <;> iassumption
  iintro ⟨⟨⟨F0, F3, F4⟩, F1, F2, F5⟩, HO, Hzb, Hx, X2, X5, X3, X4, Ho⟩
  ihave Ho := (outPts_col c _) $$ Ho
  ihave R0 := (ready_intro x c (prv c) 0 _ rfl rfl) $$ [X0 F0 T0]
  · isplitl [X0]; · iexact X0
    isplitl [F0] <;> iassumption
  ihave R1 := (ready_intro x c (nxt c) 1 _ rfl rfl) $$ [X1 F1 T1]
  · isplitl [X1]; · iexact X1
    isplitl [F1] <;> iassumption
  ihave R2 := (ready_intro x c (nxt c) 2 (cutA (nxt c) (x c)) rfl rfl) $$ [X2 F2 T2]
  · isplitl [X2]; · iexact X2
    isplitl [F2] <;> iassumption
  ihave R3 := (ready_intro x c (prv c) 3 (cutB (prv c) (x c)) rfl rfl) $$ [X3 F3 T3]
  · isplitl [X3]; · iexact X3
    isplitl [F3] <;> iassumption
  iapply (wp_seq c)
  iapply (wp_part4 x c _)
  isplitl [HO S0 S1 S2 R0 R1 R2]
  · isplitr; · iexact HK
    isplitl [HO]; · iexact HO
    isplitl [S0 S1 S2]
    · isplitl [S0]; · iexact S0
      isplitl [S1] <;> iassumption
    isplitl [R0]; · iexact R0
    isplitl [R1] <;> iassumption
  iintro ⟨HO, G0, G1, G2⟩
  iapply (wp_seq c)
  iapply (wp_part5 x c _)
  isplitl [HO S3 S4 R3 C0 X4 F4 T4]
  · isplitr; · iexact HK
    isplitr; · iexact HL
    isplitl [HO]; · iexact HO
    isplitl [S3 S4]
    · isplitl [S3] <;> iassumption
    isplitl [R3]; · iexact R3
    isplitl [C0]; · iexact C0
    isplitl [X4]; · iexact X4
    isplitl [F4]; · iexact F4
    iexact T4
  iintro ⟨HO, G3, G4, D0⟩
  iapply (wp_seq c)
  iapply (wp_part6 x c _)
  isplitl [HO S5 C1 X5 F5 T5]
  · isplitr; · iexact HK
    isplitr; · iexact HL
    isplitl [HO]; · iexact HO
    isplitl [S5]; · iexact S5
    isplitl [C1]; · iexact C1
    isplitl [X5]; · iexact X5
    isplitl [F5]; · iexact F5
    iexact T5
  iintro ⟨HO, G5, D1⟩
  iapply (wp_seq c)
  iapply (wp_part7 x c _)
  isplitl [HO C2 C4 Ho]
  · isplitr; · iexact HK
    isplitr; · iexact HL
    isplitl [HO]; · iexact HO
    isplitl [C2]; · iexact C2
    isplitl [C4] <;> iassumption
  iintro ⟨HO, D2, D4, Ho⟩
  iapply (wp_seq c)
  iapply (wp_part8 x c _)
  isplitl [HO C3 C5 Ho G0]
  · isplitr; · iexact HK
    isplitr; · iexact HL
    isplitl [HO]; · iexact HO
    isplitl [C3]; · iexact C3
    isplitl [C5]; · iexact C5
    isplitl [Ho] <;> iassumption
  iintro ⟨HO, D3, D5, Ho, B0⟩
  iapply (wp_seq c)
  iapply (wp_part9 x c _)
  isplitl [HO G1 G2 G3 G4]
  · isplitr; · iexact HK
    isplitr; · iexact HL
    isplitl [HO]; · iexact HO
    isplitl [G1]; · iexact G1
    isplitl [G2]; · iexact G2
    isplitl [G3] <;> iassumption
  iintro ⟨HO, B1, B2, B3, B4⟩
  simp only [Prog.lift, Prog.bind_op, Prog.bind_ret, Prog.pure_eq_ret]
  iapply (wp_leave x c 5 rfl ?_) $$ [HO G5]
  · rfl
  · isplitr; · iexact HK
    isplitr; · iexact HL
    isplitl [HO]; · iexact HO
    iexact G5
  iintro ⟨HO, B5⟩
  iapply (wp_end c _)
  iapply HQ
  isplitl [Hzb D0 D1 D2 D3 D4 D5 B0 B1 B2 B3 B4 B5]
  · isplitl [Hzb]; · iexact Hzb
    isplitl [D0 D1 D2 D3 D4 D5]
    · isplitl [D0]; · iexact D0
      isplitl [D1]; · iexact D1
      isplitl [D2]; · iexact D2
      isplitl [D3]; · iexact D3
      isplitl [D4] <;> iassumption
    isplitl [B0]; · iexact B0
    isplitl [B1]; · iexact B1
    isplitl [B2]; · iexact B2
    isplitl [B3]; · iexact B3
    isplitl [B4] <;> iassumption
  isplitl [HO]; · iexact HO
  isplitl [Hx] <;> iassumption

end Cert.RingSum
-- ==== Proof.Deal.lean ====
/-
# Dealing out the rights at launch

Before any body runs, the thirteen cells of every device are set up together: their invariants become known to all,
and the right to make a payment goes from the device that owns the cell to the device that pays.  The launch's credit
at a cell is what all devices together owe there.
-/
module

public import proofs.«01_k».proof.Proof.Comm

@[expose] public section

noncomputable section

namespace Cert.RingSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the payments of the whole ring -/

/-- Two cells are one exactly if device and kind agree. -/
theorem cellAt_inj {a b : Dev nD} {k j : Ck} : cellAt a k = cellAt b j ↔ a = b ∧ k = j :=
  ⟨fun h => ⟨Fin.ext (congrArg (fun g : GSem nD τ sig => g.1.1.val) h), csem_injective (congrArg Prod.snd h)⟩, fun ⟨h, h'⟩ => by rw [h, h']⟩

/-- All the cells. -/
def allCells : Finset (GSem nD τ sig) :=
  Finset.univ.map ⟨fun ck : Dev nD × Ck => cellAt ck.1 ck.2, fun _ _ h => Prod.ext (cellAt_inj.mp h).1 (cellAt_inj.mp h).2⟩

/-- The payments at device `c`'s cells: one at each, and a second at its barrier. -/
abbrev dutyAt (p : Dev nD × (Ck ⊕ Unit)) : GSem nD τ sig × ℕ × Bool := (cellAt p.1 (p.2.elim id fun _ => .bar), 0, p.2.isRight)

theorem dutyAt_injective : Function.Injective dutyAt := by
  rintro ⟨c, k | u⟩ ⟨d, j | v⟩ h
  · obtain ⟨rfl, rfl⟩ := cellAt_inj.mp (congrArg Prod.fst h); rfl
  · exact absurd (congrArg (fun q : GSem nD τ sig × ℕ × Bool => q.2.2) h) Bool.false_ne_true
  · exact absurd (congrArg (fun q : GSem nD τ sig × ℕ × Bool => q.2.2) h).symm Bool.false_ne_true
  · obtain ⟨rfl, -⟩ := cellAt_inj.mp (congrArg Prod.fst h); rfl

/-- All the payments. -/
def allDuties : Finset (GSem nD τ sig × ℕ × Bool) := Finset.univ.map ⟨dutyAt, dutyAt_injective⟩

/-- The ghost state that the launch starts from. -/
def u₀ : UU := (initOf (Pipeline.cells cfgs cellOf_inj) (Pipeline.launchToks cfgs cellOf_inj), initOf allCells allDuties)

/-- The payments at device `c`'s own cells, as rights. -/
def minted (c : Dev nD) : sProp 𝕄 :=
  iprop((bigSep Finset.univ fun k : Ck => dutyTok ER (cellAt c k) 0 false) ∗ dutyTok ER (cellAt c .bar) 0 true)

/-- What the starting ghost state gives device `c`. -/
def endow (x : Rows F) (c : Dev nD) : sProp 𝕄 :=
  iprop((bigSep Finset.univ fun k : Ck => roundState ER (sched x) (cellAt c k) 0)
    ∗ (bigSep Finset.univ fun k : Ck => iprop(seat c k ∗ reached ER (cellAt c k) 0)) ∗ minted c)

theorem over_cells (Φ : GSem nD τ sig → sProp 𝕄) :
    bigSep allCells Φ = bigSep Finset.univ fun c : Dev nD => bigSep Finset.univ fun k : Ck => Φ (cellAt c k) := by
  unfold allCells; rw [bigSep_map, bigSep_univ_prod]; rfl

theorem over_duties : bigSep allDuties (fun p => (dutyTok ER p.1 p.2.1 p.2.2 : sProp 𝕄)) = bigSep Finset.univ minted := by
  unfold allDuties
  rw [bigSep_map, bigSep_univ_prod]
  refine bigSep_congr fun c _ => ?_
  rw [bigSep_univ_sum, bigSep_univ_of_subsingleton ()]
  rfl

/-- The starting ghost state of the cells endows every device. -/
theorem endow_all (x : Rows F) : BI.own (ER (initOf allCells allDuties)) ⊢ (|==> bigSep Finset.univ (endow x) : sProp 𝕄) := by
  iintro H
  imod (Rounds.fund ER (sched x) allCells allDuties) $$ H with ⟨Hst, Hr, Hat, Htok⟩
  imodintro
  ihave Hst := (Entails.of_eq (over_cells fun g => roundState ER (sched x) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_duties (F := F))) $$ Htok
  unfold endow seat
  simp only [bigSep_sep']
  isplitl [Hst]; · iexact Hst
  isplitl [Hat Hr]
  · isplitl [Hat] <;> iassumption
  iexact Htok

/-! ## The semaphores at zero -/

/-- The kernel's own semaphores: six for sending, six for receiving. -/
abbrev osem : Fin 6 ⊕ Fin 6 → SemLoc sig := fun k => csem (.inr k)

theorem ownSemFacts : Pipeline.OwnSemFacts cfg0.spec osem := by decide

/-- They are the send and receive cells; -/
theorem ownSems_cells (c : Dev nD) : (Pipeline.ownSems0 (Ix := Unit) (Name := ℕ) (U := UU) (Lvl := ℕ) (Val := Elt F) (τ := τ) osem c : sProp 𝕄)
    = iprop((bigSep Finset.univ fun k => semVal (cellAt c (.snd k)) 0) ∗ bigSep Finset.univ fun k => semVal (cellAt c (.rcv k)) 0) := by
  unfold Pipeline.ownSems0; rw [bigSep_univ_sum]; rfl

/-- the barrier's is the one semaphore that outlives the launch; -/
theorem barrier_cell (c : Dev nD) : (unscopedSems0 c : sProp 𝕄) = semVal (cellAt c .bar) 0 := by
  unfold unscopedSems0; rw [bigSep_eq_bigSepL_of_eq [SemLoc.reg barS] (by decide) (by decide)]; rfl

/-- so together they are all of a device's cells. -/
theorem sems_cells (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (cellAt c k) 0 : sProp 𝕄) := by
  rw [ownSems_cells, barrier_cell, bigSep_ck]
  iintro ⟨⟨HS, HV⟩, HB⟩
  isplitl [HB]; · iexact HB
  isplitl [HS] <;> iassumption

/-! ## Setting the cells up -/

/-- What is left of a device's endowment once its cells stand. -/
def settled (x : Rows F) (c : Dev nD) : sProp 𝕄 :=
  iprop((bigSep Finset.univ fun k : Ck => iprop(∃ κ : ℕ, cellInv ER (sched x) κ (cellAt c k)))
    ∗ (bigSep Finset.univ fun k : Ck => iprop(seat c k ∗ reached ER (cellAt c k) 0)) ∗ minted c)

/-- Each semaphore at zero, with its round's state, becomes a standing cell. -/
theorem settle (x : Rows F) (c : Dev nD) :
    iprop(Pipeline.ownSems0 (Ix := Unit) (Name := ℕ) (U := UU) (Lvl := ℕ) (Val := Elt F) (τ := τ) osem c ∗ unscopedSems0 c ∗ endow x c)
      ⊢ |={Set.univ}=> settled x c := by
  have hcells : iprop((bigSep Finset.univ fun k : Ck => semVal (cellAt c k) 0) ∗ bigSep Finset.univ fun k : Ck => roundState ER (sched x) (cellAt c k) 0)
      ⊢ (|={Set.univ}=> bigSep Finset.univ fun k : Ck => iprop(∃ κ : ℕ, cellInv ER (sched x) κ (cellAt c k)) : sProp 𝕄) := by
    rw [← bigSep_sep']
    exact (bigSep_mono fun k _ => (Rounds.body_intro ER (sched x) (cellAt c k)).trans inv_alloc).trans (bigSep_fupd _ _)
  unfold endow settled
  iintro ⟨Hos, Hus, Hst, Hrest⟩
  ihave Hv := (sems_cells (F := F) c) $$ [Hos Hus]
  · isplitl [Hos] <;> iassumption
  imod hcells $$ [Hv Hst] with Hinv
  · isplitl [Hv] <;> iassumption
  imodintro
  isplitl [Hinv]; · iexact Hinv
  iexact Hrest

/-- The rights of device `c`, one device's share of all payments and places. -/
def share (c : Dev nD) : sProp 𝕄 :=
  iprop((dutyTok ER (cellAt (prv c) .bar) 0 true ∗ dutyTok ER (cellAt (nxt c) .bar) 0 false)
    ∗ (bigSep Finset.univ fun k => ticket c k) ∗ bigSep Finset.univ fun k : Ck => seat c k)

/-- What device `c` leaves the set-up with. -/
def dealt (x : Rows F) (c : Dev nD) : sProp 𝕄 := iprop(known x ∗ share c)

/-- The rights to pay, collected from the owners of the cells, suffice to give each device those of its own payments. -/
theorem pass_round : (bigSep Finset.univ fun c : Dev nD => (minted c : sProp 𝕄))
    ⊢ bigSep Finset.univ fun c : Dev nD => iprop((dutyTok ER (cellAt (prv c) .bar) 0 true ∗ dutyTok ER (cellAt (nxt c) .bar) 0 false) ∗ bigSep Finset.univ fun k => ticket c k) := by
  have hrcv : (bigSep Finset.univ fun c : Dev nD => bigSep Finset.univ fun k : Fin 6 => (dutyTok ER (cellAt c (.rcv k)) 0 false : sProp 𝕄))
      = bigSep Finset.univ fun c : Dev nD => bigSep Finset.univ fun k : Fin 6 => dutyTok ER (cellAt (tgt k c) (.rcv k)) 0 false := by
    rw [BI.bigSep_univ_comm, bigSep_congr fun (k : Fin 6) _ => bigSep_univ_equiv (hop k) fun c : Dev nD => (dutyTok ER (cellAt c (.rcv k)) 0 false : sProp 𝕄),
      BI.bigSep_univ_comm]
    rfl
  unfold minted ticket
  simp only [bigSep_ck, bigSep_sep']
  rw [hrcv, bigSep_univ_equiv ring (fun c : Dev nD => (dutyTok ER (cellAt c .bar) 0 false : sProp 𝕄)),
    bigSep_univ_equiv ring.symm (fun c : Dev nD => (dutyTok ER (cellAt c .bar) 0 true : sProp 𝕄))]
  iintro ⟨⟨Hf, HS, HV⟩, Ht⟩
  isplitl [Ht Hf]
  · isplitl [Ht]; · iexact Ht
    iexact Hf
  isplitl [HS]; · iexact HS
  iexact HV

/-- Once all cells stand, every device learns them and gets its share. -/
theorem deal (x : Rows F) : bigSep Finset.univ (settled x) ⊢ bigSep Finset.univ (dealt (F := F) x) := by
  unfold settled
  simp only [bigSep_sep']
  rw [← bigSep_univ_prod (fun ck : Dev nD × Ck => iprop(∃ κ : ℕ, cellInv ER (sched x) κ (cellAt ck.1 ck.2))),
    ← bigSep_univ_prod (fun ck : Dev nD × Ck => (reached ER (cellAt ck.1 ck.2) 0 : sProp 𝕄))]
  iintro ⟨HI, ⟨Hat, HR⟩, Htok⟩
  ihave HI := (BI.bigSep_exists_pi Finset.univ (fun (ck : Dev nD × Ck) (κ : ℕ) => (cellInv ER (sched x) κ (cellAt ck.1 ck.2) : sProp 𝕄))) $$ HI
  icases HI with ⟨%K, HI⟩
  have hk : iprop((bigSep Finset.univ fun ck : Dev nD × Ck => cellInv ER (sched x) (K ck) (cellAt ck.1 ck.2))
      ∗ bigSep Finset.univ fun ck : Dev nD × Ck => reached ER (cellAt ck.1 ck.2) 0) ⊢ (known x : sProp 𝕄) := by
    rw [← bigSep_sep']
    unfold known
    iintro H; iexists K; iexact H
  ihave #HK := hk $$ [HI HR]
  · isplitl [HI] <;> iassumption
  ihave Htok := (pass_round (F := F)) $$ Htok
  have hd : iprop(known x ∗ (bigSep Finset.univ fun c : Dev nD => iprop((dutyTok ER (cellAt (prv c) .bar) 0 true ∗ dutyTok ER (cellAt (nxt c) .bar) 0 false) ∗ bigSep Finset.univ fun k => ticket c k))
      ∗ bigSep Finset.univ fun c : Dev nD => bigSep Finset.univ fun k : Ck => seat c k) ⊢ (bigSep Finset.univ (dealt x) : sProp 𝕄) := by
    refine (sep_mono_left (BI.bigSep_of_persistent (Finset.univ : Finset (Dev nD)) (known x))).trans ?_
    rw [← bigSep_sep', ← bigSep_sep']
    refine bigSep_mono fun c _ => show _ ⊢ dealt x c from ?_
    unfold dealt share
    iintro ⟨HK, ⟨H1, H2⟩, H3⟩
    isplitl [HK]; · iexact HK
    isplitl [H1]; · iexact H1
    isplitl [H2]; · iexact H2
    iexact H3
  iapply hd
  isplitr; · iexact HK
  isplitl [Htok]; · iexact Htok
  iexact Hat

/-- The whole set-up. -/
theorem set_up (x : Rows F) :
    (bigSep Finset.univ fun c => iprop(Pipeline.ownSems0 (Ix := Unit) (Name := ℕ) (U := UU) (Lvl := ℕ) (Val := Elt F) (τ := τ) osem c ∗ unscopedSems0 c ∗ endow x c) : sProp 𝕄)
      ⊢ |={Set.univ}=> bigSep Finset.univ (dealt x) :=
  ((bigSep_mono fun c _ => settle x c).trans (bigSep_fupd _ _)).trans (BI.fupd_mono (deal x))

/-! ## The launch's credit -/

/-- If every device pays `n` at cell `k` of a device of its own, then device `c`'s cell `k` gets `n`, its others nothing. -/
theorem sum_paid (e : Dev nD ≃ Dev nD) (k j : Ck) (n : ℕ) (c : Dev nD) :
    (∑ d : Dev nD, (tallyAt (cellAt (e d) k) () n : CellTallies nD τ sig Unit) (cellAt c j) ()) = if k = j then n else 0 := by
  rw [Equiv.sum_comp e fun d => (tallyAt (cellAt d k) () n : CellTallies nD τ sig Unit) (cellAt c j) (), Finset.sum_eq_single c]
  · rw [tallyAt_apply]
    exact if_congr ⟨fun h => (cellAt_inj.mp h.1).2.symm, fun h => ⟨by rw [h], rfl⟩⟩ rfl rfl
  · intro d _ hd
    rw [tallyAt_apply, if_neg fun h => hd (cellAt_inj.mp h.1).1.symm]
  · exact fun h => absurd (Finset.mem_univ c) h

/-- All that the devices owe at a cell which is not a send cell is all that the cell receives. -/
theorem sum_owed (c : Dev nD) (j : Ck) (hj : ∀ k, j ≠ .snd k) : (∑ d : Dev nD, owed₀ d (cellAt c j) ()) = totalOf j := by
  have h : ∀ d : Dev nD, owed₀ d (cellAt c j) () = (∑ k : Fin 6, owe k d (cellAt c j) ())
      + (tallyAt (cellAt (ring d) .bar) () 1 : CellTallies nD τ sig Unit) (cellAt c j) ()
      + (tallyAt (cellAt (ring.symm d) .bar) () 1 : CellTallies nD τ sig Unit) (cellAt c j) () := fun d => by
    unfold owed₀ owed₁ rest
    rw [Pi.add_apply, Finsupp.add_apply, Pi.add_apply, Finsupp.add_apply, Finset.sum_apply, Finsupp.finset_sum_apply,
      Finset.filter_true_of_mem fun k _ => Nat.zero_le _]
    rfl
  have ho : ∀ k : Fin 6, (∑ d : Dev nD, owe k d (cellAt c j) ()) = if Ck.rcv k = j then N else 0 := fun k => sum_paid (hop k) (.rcv k) j N c
  rw [Finset.sum_congr rfl fun d _ => h d, Finset.sum_add_distrib, Finset.sum_add_distrib, Finset.sum_comm,
    Finset.sum_congr rfl fun k _ => ho k, sum_paid, sum_paid]
  rcases j with ⟨⟩ | k | k
  · rw [Finset.sum_eq_zero fun k _ => if_neg (fun h => by cases h), if_pos rfl]; rfl
  · exact absurd rfl (hj k)
  · rw [if_neg (fun h => by cases h), Finset.sum_eq_single k (fun i _ hi => if_neg (fun h => hi (Sum.inr.inj (Sum.inr.inj h))))
      (fun h => absurd (Finset.mem_univ k) h), if_pos rfl]; rfl

/-- So the launch's credit at such a cell is what its wait spends. -/
theorem credit_at (c : Dev nD) (j : Ck) (hj : ∀ k, j ≠ .snd k) :
    (cred (tallyOn (cellAt c j) (launchCredit (Pipeline.owing owed₀) 0 (cellAt c j))) : sProp 𝕄) = credit c j := by
  have h : launchCredit (Pipeline.owing owed₀) 0 (cellAt c j) = (Finsupp.single () (totalOf j) : Unit →₀ ℕ) :=
    Finsupp.ext fun u => by cases u; rw [Pipeline.launchCredit_owing, Finsupp.single_eq_same, sum_owed c j hj]
  unfold credit tallyAt
  rw [h]

/-- The launch's credit of a device, at its barrier and at its six receive cells. -/
theorem credits (c : Dev nD) :
    (Pipeline.launchCred owed₀ c : sProp 𝕄) ⊢ iprop(credit c .bar ∗ bigSep Finset.univ fun k => credit c (.rcv k)) := by
  let e : Unit ⊕ Fin 6 ↪ SemLoc sig := ⟨fun k => csem (k.elim (fun _ => .bar) fun i => .rcv i), fun a b h => by
    have := csem_injective h
    rcases a with ⟨⟩ | a <;> rcases b with ⟨⟩ | b
    · rfl
    · cases this
    · cases this
    · exact congrArg Sum.inr (Sum.inr.inj (Sum.inr.inj this))⟩
  unfold Pipeline.launchCred
  have hsub (Φ : SemLoc sig → sProp 𝕄) : bigSep Finset.univ Φ ⊢ bigSep (Finset.univ.map e) Φ := bigSep_subset (Finset.subset_univ _)
  refine (hsub _).trans (Entails.of_eq ?_)
  rw [bigSep_map, bigSep_univ_sum, bigSep_univ_of_subsingleton (), ← credit_at c .bar (fun k h => by cases h),
    bigSep_congr fun k _ => (credit_at (F := F) c (.rcv k) (fun i h => by cases h)).symm]
  rfl

end Cert.RingSum
-- ==== Proof.Launch.lean ====
/-
# The launch

The body proved on one device is put into the launch: the scratch buffers and the landing buffer's slots are taken from
what the launch holds and given back, and the run of all four devices follows.
-/
module

public import proofs.«01_k».proof.Proof.Deal
public import proofs.«01_k».proof.Proof.Gen.KernelIdeal.Points
public import Idealize.ShloMosaic.Lib.Ring
public import Idealize.ShloMosaic.Lib.Pipeline.CollectiveSegs

@[expose] public section

noncomputable section

namespace Cert.RingSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The landing buffer and its slots -/

/-- Slot `k` is what has first coordinate `k`. -/
theorem mem_slot (k : Fin 6) (i : S6x256x512.Idx) : i ∈ (slotM k).view.set ↔ (i 0).val = k.val := by
  have e : (slotM k).view.set = (slotR k).set := (View.set_reshape _ _).trans (View.set_slice_whole _ _)
  have h1 := (i 1).isLt
  have h2 := (i 2).isLt
  rw [e, Rect.mem_set_unit]
  constructor
  · intro h
    have := h 0
    simp only [Matrix.cons_val_zero, S6x256x512, S1x256x512] at this
    omega
  · intro h a
    fin_cases a
    · refine ⟨le_of_eq h.symm, ?_⟩
      show (i 0).val < k.val + 1
      omega
    · exact ⟨Nat.zero_le _, (Nat.zero_add 256).symm ▸ h1⟩
    · exact ⟨Nat.zero_le _, (Nat.zero_add 512).symm ▸ h2⟩

theorem slots_disjoint (k j : Fin 6) (h : k ≠ j) : Disjoint (slotM k).view.set (slotM j).view.set :=
  Finset.disjoint_left.mpr fun i hi hj => h (Fin.ext (((mem_slot k i).mp hi).symm.trans ((mem_slot j i).mp hj)))

theorem slots_cover : (Finset.univ.biUnion fun k : Fin 6 => (slotM k).view.set) = (Finset.univ : Finset S6x256x512.Idx) :=
  Finset.eq_univ_of_forall fun i => Finset.mem_biUnion.mpr ⟨⟨(i 0).val, (i 0).isLt⟩, Finset.mem_univ _, (mem_slot _ i).mpr rfl⟩

/-- The landing buffer is its six slots, -/
theorem slots_split (c : Dev nD) :
    (iprop(∃ f : Buf (Elt F) ((c : Thread nD τ).loc cc0_scratch6), ((c : Thread nD τ).loc cc0_scratch6) ↦{fullShare} f) : sProp 𝕄)
      ⊢ bigSep Finset.univ (slotFree (F := F) c) := by
  iintro ⟨%f, H⟩
  ihave H := (Entails.of_eq (Ring.pointsTo_blocks (fun k : Fin 6 => (slotM k).view.set) slots_disjoint slots_cover f)) $$ H
  have h (k : Fin 6) : iprop(((c : Thread nD τ).loc cc0_scratch6) ↦[(slotM k).view.set]{fullShare} f) ⊢ (slotFree c k : sProp 𝕄) := by
    unfold slotFree
    iintro H
    iexists ((slotM k).view.read (Elt F) f)
    iapply (owns_intro _ _ _ _)
    iexact H
  have hall : (bigSep Finset.univ fun k : Fin 6 => iprop(((c : Thread nD τ).loc cc0_scratch6) ↦[(slotM k).view.set]{fullShare} f)) ⊢ (bigSep Finset.univ (slotFree c) : sProp 𝕄) :=
    bigSep_mono fun k _ => h k
  iapply hall
  iexact H

/-- and the six slots, whatever they hold, are the landing buffer. -/
theorem slots_join (c : Dev nD) (X : Fin 6 → Vec F S256x512 .bf16) :
    (bigSep Finset.univ fun k => slotPts c k (X k))
      ⊢ (iprop(∃ f : Buf (Elt F) ((c : Thread nD τ).loc cc0_scratch6), ((c : Thread nD τ).loc cc0_scratch6) ↦{fullShare} f) : sProp 𝕄) := by
  have h (k : Fin 6) : slotPts c k (X k)
      ⊢ (iprop(∃ f : Buf (Elt F) ((c : Thread nD τ).loc cc0_scratch6), ((c : Thread nD τ).loc cc0_scratch6) ↦[(slotM k).view.set]{fullShare} f) : sProp 𝕄) := by
    unfold slotPts owns
    iintro ⟨%f, -, H⟩
    iexists f
    iexact H
  have hall : (bigSep Finset.univ fun k => slotPts c k (X k))
      ⊢ (bigSep Finset.univ fun k : Fin 6 => iprop(∃ f : Buf (Elt F) ((c : Thread nD τ).loc cc0_scratch6), ((c : Thread nD τ).loc cc0_scratch6) ↦[(slotM k).view.set]{fullShare} f) : sProp 𝕄) :=
    bigSep_mono fun k _ => h k
  have f₀ : Buf (Elt F) ((c : Thread nD τ).loc cc0_scratch6) := fun _ => Classical.choice inferInstance
  have hjoin := Ring.pointsTo_blocks_join_exists (Ix := Unit) (Name := ℕ) (U := UU) (Lvl := ℕ) (Val := Elt F) (ℓ := (c : Thread nD τ).loc cc0_scratch6)
    (q := fullShare) (fun k : Fin 6 => (slotM k).view.set) slots_disjoint slots_cover f₀
  exact hall.trans hjoin

/-- A scratch buffer as its copy names it, -/
theorem src_open (c : Dev nD) (b : Ref sig .tc) (off : Fin b.ty.shape.rank → ℕ) (inb : ∀ a, off a + b.ty.shape.size a ≤ b.ty.shape.size a) (hr) (X) :
    (owns (c : Thread nD τ) ((Memref.whole b).slice (Rect.unit off b.ty.shape.size inb) hr) fullShare X : sProp 𝕄)
      ⊢ iprop(∃ f : Buf (Elt F) ((c : Thread nD τ).loc b), ((c : Thread nD τ).loc b) ↦{fullShare} f) := by
  refine (all_owns c b off inb hr X).trans ?_
  iintro ⟨%f, -, H⟩
  iexists f
  iexact H

theorem six_eq (Φ : Fin 6 → sProp 𝕄) : six Φ = bigSep Finset.univ Φ := (bigSep_six Φ).symm

/-! ## The launch's data -/

section Run
variable (m : (ℓ : Loc nD τ sig) → Buf (Elt F) ℓ) (ρ : Dev nD → PrngReg)

/-- The state at the start: the given memory, every counter at zero. -/
abbrev s₀ : MemSt nD τ sig (Elt F) := ⟨m, fun _ => 0, ρ⟩

/-- Each device's rows, as its stage holds them. -/
def rows : Rows F := fun c => (win0_0.blk (0 : Fin 1)).view.read (Elt F) ((s₀ m ρ).mem ((c : Thread nD τ).loc main_arg0))

/-- What the launch is told about device `c`: the stages before and after its one point, and what else it holds. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => rows m ρ c
    | ⟨1, _⟩ => outAt (rows m ρ) c
  Φ t := match t with
    | ⟨0, _⟩ => before (rows m ρ) c
    | ⟨_ + 1, _⟩ => after (rows m ρ) c
  q _ := fullShare
  owed t := match t with
    | ⟨0, _⟩ => owed₀ c
    | ⟨_ + 1, _⟩ => 0

theorem owns_buf (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A buffer holding the contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def atStart (c : Dev nD) : sProp 𝕄 :=
  iprop(before (rows m ρ) c ∗ (dats m ρ 0 c).owesAt () (t0_0 : Fin cfg0.N).castSucc
    ∗ (∃ d, stg c cc0_stg0_0 ((dats m ρ 0 c).before (0 : Fin 2) t0_0 d)) ∗ (∃ d, stg c cc0_stg1_0 ((dats m ρ 0 c).before (1 : Fin 2) t0_0 d)))
def atEnd (c : Dev nD) : sProp 𝕄 :=
  iprop(after (rows m ρ) c ∗ (dats m ρ 0 c).owesAt () (t0_0 : Fin cfg0.N).succ
    ∗ stg c cc0_stg0_0 (rows m ρ c) ∗ stg c cc0_stg1_0 (outAt (rows m ρ) c))

/-- The body in the launch's terms. -/
theorem body_run (c : Dev nD) : atStart m ρ c ⊢ runs c (onBufs (cc0_body (F := F))) (fun _ => atEnd m ρ c) := by
  unfold atStart atEnd Dat.owesAt Pipeline.owesWithin
  rw [show (dats m ρ 0 c).owed (t0_0 : Fin cfg0.N).castSucc = owed₀ c from rfl, show (dats m ρ 0 c).owed (t0_0 : Fin cfg0.N).succ = 0 from rfl]
  iintro ⟨Hb, ⟨%W, %hW, HO⟩, ⟨%d0, %f0, %h0, Hx⟩, ⟨%d1, %f1, %h1, Ho⟩⟩
  have hx : f0 = rows m ρ c := by
    rw [h0]; unfold Dat.before; rw [if_pos (fetch0_0 t0_0)]; rfl
  subst hx
  iapply (wp_body (rows m ρ) c W _)
  isplitl
  · isplitl [Hb]; · iexact Hb
    isplitl [HO]; · iexact HO
    isplitl [Hx]; · unfold rowsPts; iexact Hx
    ihave Ho := (owns_all c cc0_stg1_0 ![0, 0] inb_S512x512_S512x512_0_0 (fun _ => rfl)) $$ [Ho]
    · iexists f1; iexact Ho
    iexact Ho
  · unfold held rowsPts
    rw [rest_six]
    iintro ⟨Ha, ⟨%W', HO⟩, Hx, Ho⟩
    isplitl [Ha]; · iexact Ha
    isplitl [HO]
    · iexists W'
      isplitr; · ipureintro; exact fun _ _ => Or.inl trivial
      iexact HO
    isplitl [Hx]
    · iexists _
      isplitr; · ipureintro; rfl
      iexact Hx
    · iexists _
      isplitr; · ipureintro; rfl
      iexact Ho

set_option maxRecDepth 4000 in
/-- The launch's obligation for the body on device `c`. -/
theorem body_obligation (c : Dev nD) : BodyObligation (dats (F := F) m ρ 0 c) (defs₀ (F := F)) 𝒱₀ () Set.univ := fun t => by
  rw [fin_N0 t, bigSep_W0, bigSep_W0]
  simp only [owns_buf]
  exact body_run m ρ c

/-! ## In and out of the launch -/

theorem share_eq (c : Dev nD) (w : Fin cfg0.W) : (dats m ρ 0 c).share w = fullShare := by unfold Dat.share; split <;> rfl

/-- What device `c` starts with beside its buffers. -/
def start (c : Dev nD) : sProp 𝕄 :=
  iprop(dealt (rows m ρ) c ∗ levAts L lv ∗ credit c .bar ∗ bigSep Finset.univ fun k => credit c (.rcv k))

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ dealt (rows m ρ) c)
      ⊢ |={Set.univ}=> iprop(start m ρ c ∗ emp) := by
  iintro ⟨-, Hlev, Hcr, -, HG⟩
  ihave Hc := (credits (F := F) c) $$ Hcr
  imodintro
  unfold start
  isplitl
  · isplitl [HG]; · iexact HG
    isplitl [Hlev]; · iexact Hlev
    iexact Hc
  · iempintro

/-- The scratch buffers come in, -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before (rows m ρ) c from rfl, scopedRest0_eq]
  unfold start dealt share before
  rw [bigSep_ck, six_eq (ticket c), six_eq (fun k => seat c (.snd k)), six_eq (coming c), six_eq (slotFree c)]
  unfold coming
  rw [bigSep_sep']
  iintro ⟨⟨⟨HK, Hpay, Htick, Hsb, Hss, Hsr⟩, HL, Hcb, Hcr⟩, -, H0, H1, H2, H3, H4, H5, H6⟩
  isplitl [HK]; · iexact HK
  isplitl [HL]; · iexact HL
  isplitl [Hpay]; · iexact Hpay
  isplitl [Hcb Hsb]
  · isplitl [Hcb] <;> iassumption
  isplitl [Htick]; · iexact Htick
  isplitl [Hss]; · iexact Hss
  isplitl [Hcr Hsr]
  · isplitl [Hcr] <;> iassumption
  isplitl [H6]
  · iapply (slots_split c); iexact H6
  isplitl [H0]
  · ihave H := (owns_all c cc0_scratch0 ![0, 0] inb_S256x512_S256x512_0_0 (fun _ => rfl)) $$ H0
    iexact H
  isplitl [H1]
  · ihave H := (owns_all c cc0_scratch1 ![0, 0] inb_S256x512_S256x512_0_0 (fun _ => rfl)) $$ H1
    iexact H
  isplitl [H2]
  · ihave H := (owns_all c cc0_scratch2 ![0, 0] inb_S256x512_S256x512_0_0 (fun _ => rfl)) $$ H2
    iexact H
  isplitl [H3]
  · ihave H := (owns_all c cc0_scratch3 ![0, 0] inb_S256x512_S256x512_0_0 (fun _ => rfl)) $$ H3
    iexact H
  isplitl [H4]
  · ihave H := (owns_all c cc0_scratch4 ![0, 0] inb_S256x512_S256x512_0_0 (fun _ => rfl)) $$ H4
    iexact H
  · ihave H := (owns_all c cc0_scratch5 ![0, 0] inb_S256x512_S256x512_0_0 (fun _ => rfl)) $$ H5
    iexact H

/-- and go out, with every semaphore at zero. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after (rows m ρ) c from rfl, scopedRest0_eq, ownSems_cells, barrier_cell]
  unfold after
  rw [six_eq (came (rows m ρ) c), six_eq (back (rows m ρ) c)]
  unfold came back
  rw [bigSep_sep', bigSep_sep', bigSep_six (fun k => srcPts c k (val (rows m ρ) k c))]
  iintro ⟨HB, ⟨Hslots, Hrcv⟩, ⟨H0, H1, H2, H3, H4, H5⟩, Hsnd⟩
  isplitl [HB]; · iexact HB
  isplitl [Hsnd Hrcv]
  · isplitl [Hsnd] <;> iassumption
  isplitl [H0]; · iapply (src_open c cc0_scratch0 ![0, 0] inb_S256x512_S256x512_0_0 (fun _ => rfl) _); iexact H0
  isplitl [H1]; · iapply (src_open c cc0_scratch1 ![0, 0] inb_S256x512_S256x512_0_0 (fun _ => rfl) _); iexact H1
  isplitl [H2]; · iapply (src_open c cc0_scratch2 ![0, 0] inb_S256x512_S256x512_0_0 (fun _ => rfl) _); iexact H2
  isplitl [H3]; · iapply (src_open c cc0_scratch3 ![0, 0] inb_S256x512_S256x512_0_0 (fun _ => rfl) _); iexact H3
  isplitl [H4]; · iapply (src_open c cc0_scratch4 ![0, 0] inb_S256x512_S256x512_0_0 (fun _ => rfl) _); iexact H4
  isplitl [H5]; · iapply (src_open c cc0_scratch5 ![0, 0] inb_S256x512_S256x512_0_0 (fun _ => rfl) _); iexact H5
  iapply (slots_join c _)
  iexact Hslots

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array at device `c` after the run. -/
def arrEnd (c : Dev nD) (w : Fin cfg0.W) : Buf (Elt F) ((cfg0.win w).arr.view.loc (c : Thread nD τ)) := (dats m ρ 0 c).arrAt w cfg0.N

set_option maxRecDepth 8000 in
/-- From any memory with every counter at zero, the four devices run to an end under every fair schedule; then each
    device's arrays hold `arrEnd`, and every counter is back at zero. -/
theorem run_main : θ_run defs (onTc (τ := τ) (main (F := F))) (s₀ m ρ) (fun r =>
    (∀ c : Dev nD, ∀ w : Fin cfg0.W, r.2.mem ((cfg0.win w).arr.view.loc (c : Thread nD τ)) = arrEnd m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := owed₀) (howed₀ := fun _ => rfl) (howedN := fun _ => rfl)
    (L := L) (lv := lv) (hL := L_of_ne) (hwaits := waits m ρ)
    (G := endow (rows m ρ)) (G' := dealt (rows m ρ)) (u₀ := u₀)
    (hu₀ := by
      unfold u₀
      iintro Hu
      ihave H := (ownU_pair _ _) $$ Hu
      icases H with ⟨HP, HX⟩
      imod (endow_all (rows m ρ)) $$ HX with HG
      imodintro
      isplitl [HP] <;> iassumption)
    (hglob := set_up (rows m ρ))
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The rows' array is never written. -/
theorem arrEnd_rows (c : Dev nD) : arrEnd m ρ c (0 : Fin 2) = (s₀ m ρ).mem (win0_0.arr.view.loc (c : Thread nD τ)) :=
  (dats (F := F) m ρ 0 c).arrAt_in (0 : Fin 2) rfl _

end Run

end Cert.RingSum
-- ==== Proof.Value.lean ====
/-
# The values

Each piece the copies carry read at an index, the result's stage as the sum of the four devices' rows, the reference's
result as the same sum, and the result array after the launch as what the stage held.
-/
module

public import proofs.«01_k».proof.Proof.Launch
public import proofs.«01_k».proof.Proof.Gen.ReferenceIdeal
public import Idealize.ShloMosaic.Lib.Pipeline.Value
public import Idealize.ShloMosaic.Lib.Pipeline.ValueKit.Tiles
public import Idealize.ShloMosaic.Lib.ValueLayout
public import Idealize.ShloMosaic.Lib.ValueIdx
public import Idealize.ShloMosaic.Lib.Pointwise.Reduce
public import Idealize.ShloMosaic.PureOps.Ideal.Laws
public import Idealize.ShloMosaic.Lib.LayoutAt

@[expose] public section

noncomputable section

open scoped BigOperators

namespace Cert.RingSum

open Cert.KernelIdeal Cert.KernelIdeal.Gen
open Idealize.ShloMosaic hiding ix2 ix3 eq_ix2 eq_ix3
open Idealize.ShloMosaic.TcCoe
open Idealize.ShloMosaic.ValueIdx (ix2 ix3 eq_ix2 eq_ix3 shapeCast_1ab_ab_apply)
open Idealize.SL Idealize.SL.Sem
open Idealize.ShloMosaic.Pipeline (Dat)

variable {F : FTy → Type} [FloatOps F]

/-! ## Pieces at an index -/

/-- Column `q` of column block `j`, as a column of all the rows. -/
def colOf (j : Dev nD) (q : Fin 512) : Fin 2048 := ⟨512 * j.val + q.val, by have hj : j.val < 4 := j.isLt; have := q.isLt; omega⟩
/-- Row `r` of half A among all the rows, -/
def rowA (r : Fin 256) : Fin 512 := ⟨r.val, by have := r.isLt; omega⟩
/-- and row `r` of half B. -/
def rowB (r : Fin 256) : Fin 512 := ⟨256 + r.val, by have := r.isLt; omega⟩

/-- Half A of column block `j` at `(r, q)`. -/
theorem cutA_at (j : Dev nD) (v : (cc0_stg0_0 : Ref sig .tc).ty.Contents (Elt F)) (r : Fin 256) (q : Fin 512) :
    cutA j v (ix2 r q) = v (ix3 (0 : Fin 1) (rowA r) (colOf j q)) := by
  unfold cutA k0_pay1
  dsimp only
  rw [shapeCast_self]
  refine (shapeCast_1ab_ab_apply _ _ r q).trans ?_
  exact View.ld_unit_apply_of (Val := Elt F) v _ _ _ _ _ (fun a => by fin_cases a <;> simp [rowA, colOf])

/-- Half B of column block `j` at `(r, q)`. -/
theorem cutB_at (j : Dev nD) (v : (cc0_stg0_0 : Ref sig .tc).ty.Contents (Elt F)) (r : Fin 256) (q : Fin 512) :
    cutB j v (ix2 r q) = v (ix3 (0 : Fin 1) (rowB r) (colOf j q)) := by
  unfold cutB k0_pay1
  dsimp only
  rw [shapeCast_self]
  refine (shapeCast_1ab_ab_apply _ _ r q).trans ?_
  exact View.ld_unit_apply_of (Val := Elt F) v _ _ _ _ _ (fun a => by fin_cases a <;> simp [rowB, colOf])

/-- The whole of column block `j` at `(r, q)`. -/
theorem cutW_at (j : Dev nD) (v : (cc0_stg0_0 : Ref sig .tc).ty.Contents (Elt F)) (r : Fin 512) (q : Fin 512) :
    cutW j v (ix2 r q) = v (ix3 (0 : Fin 1) r (colOf j q)) := by
  unfold cutW k0_pay25
  dsimp only
  refine (shapeCast_1ab_ab_apply _ _ r q).trans ?_
  exact View.ld_unit_apply_of (Val := Elt F) v _ _ _ _ _ (fun a => by fin_cases a <;> simp [colOf])

/-- A slot's contents as loaded, the leading axis dropped again. -/
theorem drop_lift (X : Vec F S256x512 .bf16) : shapeCast S256x512 (lift X) shapeCasts_S1x256x512_S256x512 = X := by
  funext i
  exact congrArg X (Equiv.symm_apply_apply _ i)

/-! ## The two additions into the result's stage -/

/-- An array of rows with 256 of them replaced, read at one of those, -/
theorem put_in {α : Type} (f : S512x512.Idx → α) (w : S256x512.Idx → α) (o : ℕ) (h : S512x512.Slices ![o, 0] S256x512)
    (i : Fin 512) (r : Fin 256) (q : Fin 512) (hi : i.val = o + r.val) : updateSlice f w ![o, 0] h (ix2 i q) = w (ix2 r q) := by
  have hr := r.isLt
  unfold updateSlice
  rw [dif_pos (fun a => by
    fin_cases a
    · show o ≤ i.val ∧ i.val < o + 256
      omega
    · exact ⟨Nat.zero_le _, by show q.val < 0 + 512; omega⟩)]
  congr 1
  funext a
  fin_cases a
  · exact Fin.ext (by show i.val - o = r.val; omega)
  · rfl

/-- and at another row. -/
theorem put_out {α : Type} (f : S512x512.Idx → α) (w : S256x512.Idx → α) (o : ℕ) (h : S512x512.Slices ![o, 0] S256x512)
    (i : Fin 512) (q : Fin 512) (hi : ¬ (o ≤ i.val ∧ i.val < o + 256)) : updateSlice f w ![o, 0] h (ix2 i q) = f (ix2 i q) := by
  unfold updateSlice
  exact dif_neg fun hin => hi (hin 0)

/-- A row of half A after the first addition, -/
theorem addTop_A (f : (cc0_stg1_0 : Ref sig .tc).ty.Contents (Elt F)) (d s : Vec F S256x512 .bf16) (r : Fin 256) (q : Fin 512) :
    addTop f d s (ix2 (rowA r) q) = FloatOps.addf (FloatOps.addf (f (ix2 (rowA r) q)) (d (ix2 r q))) (s (ix2 r q)) := by
  unfold addTop k0_pay31
  dsimp only
  rw [drop_lift, drop_lift, shapeCast_self]
  refine (congrFun (View.write_whole_slice_unit (Val := Elt F) cc0_stg1_0 _ _ _ _ _) _).trans ?_
  refine (put_in _ _ 0 _ (rowA r) r q (Nat.zero_add _).symm).trans ?_
  have e : oM.view.readAt (Elt F) rectTop.toLoadRect f (ix2 r q) = f (ix2 (rowA r) q) :=
    View.ld_unit_apply_of (Val := Elt F) f _ _ _ _ _ (fun a => by fin_cases a <;> simp [rowA])
  exact congrArg (fun y => FloatOps.addf (FloatOps.addf y (d (ix2 r q))) (s (ix2 r q))) e

/-- and a row of half B, which it leaves as it is. -/
theorem addTop_B (f : (cc0_stg1_0 : Ref sig .tc).ty.Contents (Elt F)) (d s : Vec F S256x512 .bf16) (r : Fin 256) (q : Fin 512) :
    addTop f d s (ix2 (rowB r) q) = f (ix2 (rowB r) q) := by
  unfold addTop
  refine (congrFun (View.write_whole_slice_unit (Val := Elt F) cc0_stg1_0 _ _ _ _ _) _).trans ?_
  exact put_out _ _ 0 _ (rowB r) q (by show ¬ (0 ≤ 256 + r.val ∧ 256 + r.val < 0 + 256); omega)

/-- A row of half B after the second addition, -/
theorem addBot_B (f : (cc0_stg1_0 : Ref sig .tc).ty.Contents (Elt F)) (d s : Vec F S256x512 .bf16) (r : Fin 256) (q : Fin 512) :
    addBot f d s (ix2 (rowB r) q) = FloatOps.addf (FloatOps.addf (f (ix2 (rowB r) q)) (d (ix2 r q))) (s (ix2 r q)) := by
  unfold addBot k0_pay32
  dsimp only
  rw [drop_lift, drop_lift, shapeCast_self]
  refine (congrFun (View.write_whole_slice_unit (Val := Elt F) cc0_stg1_0 _ _ _ _ _) _).trans ?_
  refine (put_in _ _ 256 _ (rowB r) r q rfl).trans ?_
  have e : oM.view.readAt (Elt F) rectBot.toLoadRect f (ix2 r q) = f (ix2 (rowB r) q) :=
    View.ld_unit_apply_of (Val := Elt F) f _ _ _ _ _ (fun a => by fin_cases a <;> simp [rowB])
  exact congrArg (fun y => FloatOps.addf (FloatOps.addf y (d (ix2 r q))) (s (ix2 r q))) e

/-- and a row of half A, which it leaves as it is. -/
theorem addBot_A (f : (cc0_stg1_0 : Ref sig .tc).ty.Contents (Elt F)) (d s : Vec F S256x512 .bf16) (r : Fin 256) (q : Fin 512) :
    addBot f d s (ix2 (rowA r) q) = f (ix2 (rowA r) q) := by
  unfold addBot
  refine (congrFun (View.write_whole_slice_unit (Val := Elt F) cc0_stg1_0 _ _ _ _ _) _).trans ?_
  exact put_out _ _ 256 _ (rowA r) q (by show ¬ (256 ≤ r.val ∧ r.val < 256 + 256); have := r.isLt; omega)

/-! ## The result's stage -/

/-! Where each landing copy comes from, and two hops around the ring, as devices. -/

theorem org2 (c : Dev nD) : org 2 c = prv c := by revert c; decide
theorem org3 (c : Dev nD) : org 3 c = nxt c := by revert c; decide
theorem org4 (c : Dev nD) : org 4 c = nxt c := by revert c; decide
theorem org5 (c : Dev nD) : org 5 c = prv c := by revert c; decide
theorem nxt_nxt (c : Dev nD) : nxt (nxt c) = opp c := by revert c; decide
theorem prv_prv (c : Dev nD) : prv (prv c) = opp c := by revert c; decide
theorem opp_opp (c : Dev nD) : opp (opp c) = c := by revert c; decide

/-- What device `d` adds to the result at row `r`, column `q` of column block `c`. -/
def share4 (x : Rows F) (c : Dev nD) (r : Fin 512) (q : Fin 512) (d : Dev nD) : Elt F .bf16 := x d (ix3 (0 : Fin 1) r (colOf c q))

/-- A row of half A of the result: the device's own row, its left neighbour's, and the sum its right neighbour passed on. -/
theorem outAt_A (x : Rows F) (c : Dev nD) (r : Fin 256) (q : Fin 512) :
    outAt x c (ix2 (rowA r) q)
      = FloatOps.addf (φ := .bf16) (FloatOps.addf (φ := .bf16) (share4 x c (rowA r) q c) (share4 x c (rowA r) q (prv c)))
          (FloatOps.addf (φ := .bf16) (share4 x c (rowA r) q (nxt c)) (share4 x c (rowA r) q (opp c))) := by
  have h2 : val x 2 (org 2 c) (ix2 r q) = share4 x c (rowA r) q (prv c) := by
    show cutA (nxt (org 2 c)) (x (org 2 c)) (ix2 r q) = _
    rw [cutA_at, org2, nxt_prv]; rfl
  have h4 : val x 4 (org 4 c) (ix2 r q) = FloatOps.addf (φ := .bf16) (share4 x c (rowA r) q (nxt c)) (share4 x c (rowA r) q (opp c)) := by
    show k0_pay29 (cutA (prv (org 4 c)) (x (org 4 c))) (lift (cutA (opp (nxt (org 4 c))) (x (nxt (org 4 c))))) (ix2 r q) = _
    unfold k0_pay29
    rw [drop_lift, shapeCast_self, org4, nxt_nxt,
      opp_opp, prv_nxt]
    exact congrArg₂ FloatOps.addf (cutA_at _ _ _ _) (cutA_at _ _ _ _)
  unfold outAt
  rw [addBot_A]
  unfold topAt
  rw [addTop_A, h2, h4, cutW_at]
  rfl

/-- A row of half B of the result: the same, with the neighbours' parts exchanged. -/
theorem outAt_B (x : Rows F) (c : Dev nD) (r : Fin 256) (q : Fin 512) :
    outAt x c (ix2 (rowB r) q)
      = FloatOps.addf (φ := .bf16) (FloatOps.addf (φ := .bf16) (share4 x c (rowB r) q c) (share4 x c (rowB r) q (nxt c)))
          (FloatOps.addf (φ := .bf16) (share4 x c (rowB r) q (prv c)) (share4 x c (rowB r) q (opp c))) := by
  have h3 : val x 3 (org 3 c) (ix2 r q) = share4 x c (rowB r) q (nxt c) := by
    show cutB (prv (org 3 c)) (x (org 3 c)) (ix2 r q) = _
    rw [cutB_at, org3, prv_nxt]; rfl
  have h5 : val x 5 (org 5 c) (ix2 r q) = FloatOps.addf (φ := .bf16) (share4 x c (rowB r) q (prv c)) (share4 x c (rowB r) q (opp c)) := by
    show k0_pay30 (cutB (nxt (org 5 c)) (x (org 5 c))) (lift (cutB (opp (prv (org 5 c))) (x (prv (org 5 c))))) (ix2 r q) = _
    unfold k0_pay30
    rw [drop_lift, shapeCast_self, org5, prv_prv,
      opp_opp, nxt_prv]
    exact congrArg₂ FloatOps.addf (cutB_at _ _ _ _) (cutB_at _ _ _ _)
  unfold outAt
  rw [addBot_B, h3, h5]
  unfold topAt
  rw [addTop_B, cutW_at]
  rfl

/-- With exact arithmetic the result is the sum of the four devices' rows, in whatever order they came. -/
theorem outAt_sum (x : Rows Ideal) (c : Dev nD) (r q : Fin 512) :
    outAt x c (ix2 r q) = ∑ d : Fin 4, (show EReal from share4 x c r q d) := by
  have hA (f : Fin 4 → EReal) : f c + f (prv c) + (f (nxt c) + f (opp c)) = ∑ d : Fin 4, f d := by
    rw [Fin.sum_univ_four]
    fin_cases c
    · show f 0 + f 3 + (f 1 + f 2) = _; abel
    · show f 1 + f 0 + (f 2 + f 3) = _; abel
    · show f 2 + f 1 + (f 3 + f 0) = _; abel
    · show f 3 + f 2 + (f 0 + f 1) = _; abel
  have hB (f : Fin 4 → EReal) : f c + f (nxt c) + (f (prv c) + f (opp c)) = ∑ d : Fin 4, f d := by
    rw [← hA f]; abel
  by_cases h : r.val < 256
  · obtain ⟨r', rfl⟩ : ∃ r', rowA r' = r := ⟨⟨r.val, h⟩, rfl⟩
    exact (outAt_A x c r' q).trans (hA (share4 x c _ q))
  · have hr := r.isLt
    obtain ⟨r', rfl⟩ : ∃ r', rowB r' = r := ⟨⟨r.val - 256, by omega⟩, Fin.ext (by show 256 + (r.val - 256) = r.val; omega)⟩
    exact (outAt_B x c r' q).trans (hB (share4 x c _ q))

/-! ## The result array -/

section
variable (m : (ℓ : Loc nD τ sig) → Buf (Elt F) ℓ) (ρ : Dev nD → PrngReg)

/-- Device `c`'s rows, as the launch reads them, are its argument array. -/
theorem rows_eq (c : Dev nD) : rows m ρ c = m ((c : Thread nD τ).loc main_arg0) :=
  Memref.read_access_unit_zero (Elt F) main_arg0 (funext fun a => by fin_cases a <;> decide) (fun a => by fin_cases a <;> decide) _

/-- The result array after the run is what the result's stage ended with. -/
theorem arrEnd_out (c : Dev nD) : arrEnd m ρ c (1 : Fin 2) = outAt (rows m ρ) c := by
  have h : (win0_1.blk (0 : Fin 1)).view.read (Elt F) (arrEnd m ρ c (1 : Fin 2)) = outAt (rows m ρ) c := by
    unfold arrEnd
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  rw [← h]
  exact (Memref.read_access_unit_zero (Elt F) main_v1 (funext fun a => by fin_cases a <;> decide) (fun a => by fin_cases a <;> decide) _).symm

end

/-! ## The reference's result -/

/-- The reference's result of the whole array. -/
def refOut (X : FVec Ideal ⟨3, ![4, 512, 2048]⟩ .bf16) : FVec Ideal ⟨2, ![512, 2048]⟩ .bf16 :=
  truncf .bf16 (Host.reduceAdd (extf .f32 X Cert.ReferenceIdeal.Gen.bitsLt_bf16_f32) (constant Cert.ReferenceIdeal.S_ .f32 0x00000000#32)
    Cert.ReferenceIdeal.Gen.reducesTo_S4x512x2048_S512x2048_d0 Cert.ReferenceIdeal.Gen.h_S_) Cert.ReferenceIdeal.Gen.bitsLt_bf16_f32

/-- It is the sum over the four blocks of rows. -/
theorem refOut_sum (X : FVec Ideal ⟨3, ![4, 512, 2048]⟩ .bf16) (r : Fin 512) (k : Fin 2048) :
    refOut X (ix2 r k) = ∑ d : Fin 4, (show EReal from X (ix3 d r k)) := by
  have h := Ideal.hostReduceAdd_r3_a0 Cert.ReferenceIdeal.Gen.reducesTo_S4x512x2048_S512x2048_d0 X (Ideal.ofBits .f32 0x00000000#32) (ix2 r k)
  have e : refOut X (ix2 r k) = Ideal.ofBits .f32 0x00000000#32 + ∑ d : Fin 4, (show EReal from X (ix3 d r k)) :=
    h.trans (congrArg (_ + ·) (Finset.sum_congr rfl fun d _ => congrArg X (funext fun a => by fin_cases a <;> rfl)))
  rw [e, Ideal.ofBits_zero_f32, zero_add]

/-- The devices' results are the column blocks of the reference's. -/
theorem outAt_block (X : FVec Ideal ⟨3, ![4, 512, 2048]⟩ .bf16) (x : Rows Ideal)
    (hx : ∀ d : Dev nD, x d = Layout.block ⟨3, ![1, 512, 2048]⟩ ⟨3, ![4, 512, 2048]⟩ 0 4 d X) (c : Dev nD) :
    outAt x c = Layout.block ⟨2, ![512, 512]⟩ ⟨2, ![512, 2048]⟩ 1 4 c (refOut X) := by
  funext i
  obtain ⟨r, q, rfl⟩ : ∃ r q : Fin 512, i = ix2 r q := ⟨_, _, eq_ix2 i⟩
  rw [outAt_sum, Layout.block_apply]
  have hi (h : Layout.Tiles ⟨2, ![512, 512]⟩ ⟨2, ![512, 2048]⟩ 1 4) : h.idx c (ix2 r q) = ix2 r (colOf c q) := by
    funext b
    refine Fin.ext ((h.idx_val c _ b).trans ?_)
    fin_cases b
    · rfl
    · exact congrArg (· + q.val) (Nat.mul_comm c.val 512)
  rw [hi, refOut_sum]
  refine Finset.sum_congr (M := EReal) rfl fun d _ => ?_
  show x d _ = X _
  rw [hx d, Layout.block_apply]
  refine congrArg X (funext fun b => Fin.ext ((Layout.Tiles.idx_val _ d _ b).trans ?_))
  fin_cases b
  · exact (Nat.add_zero _).trans (Nat.mul_one _)
  · rfl
  · rfl

end Cert.RingSum
-- ==== Proof.lean ====
/-
# The claims

The kernel's launch runs and leaves every counter at zero, for any arithmetic; so does the reference; and with exact
arithmetic the four devices' results are the column blocks of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The bodies of the two printed kernels, which have the same text, are equal; -/
theorem bodies_eq {F : FTy → Type} [FloatOps F] : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) => rfl

/-- and so are the tables that their runs read. -/
theorem tables_eq {F : FTy → Type} [FloatOps F] : Cert.Kernel.defs (F := F) = Cert.KernelIdeal.defs :=
  congrArg (Pipeline.defs Cert.KernelIdeal.pcfgs) bodies_eq

/-- The kernel as printed runs, its argument ends as it began, and every counter ends at zero. -/
theorem frame_kernel : Cert.quiescent_Kernel := by
  intro m ρ _
  have h : θ_run Cert.KernelIdeal.defs (onTc (τ := Cert.KernelIdeal.τ) (Cert.KernelIdeal.main (F := Bits))) (RingSum.s₀ m ρ)
      (fun r => (∀ c : Dev Cert.KernelIdeal.nD, r.2.mem ((c : Thread Cert.KernelIdeal.nD Cert.KernelIdeal.τ).loc Cert.KernelIdeal.main_arg0)
        = m ((c : Thread Cert.KernelIdeal.nD Cert.KernelIdeal.τ).loc Cert.KernelIdeal.main_arg0)) ∧ r.2.sem = fun _ => 0) :=
    (θ_run Cert.KernelIdeal.defs _ _).mono
      (fun _ h => ⟨fun c => (h.1 c (0 : Fin 2)).trans (RingSum.arrEnd_rows m ρ c), h.2⟩) (RingSum.run_main (F := Bits) m ρ)
  rw [tables_eq]
  exact h

/-- So does the kernel with exact arithmetic. -/
theorem frame_kernel_ideal : Cert.quiescent_KernelIdeal := by
  intro m ρ _
  exact (θ_run Cert.KernelIdeal.defs _ _).mono
    (fun _ h => ⟨fun c => (h.1 c (0 : Fin 2)).trans (RingSum.arrEnd_rows m ρ c), h.2⟩) (RingSum.run_main (F := Ideal) m ρ)

/-- So does the reference. -/
theorem frame_reference : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run (F := Ideal) m ρ)

/-- From matching arguments the devices' results are the column blocks of the reference's result. -/
theorem same_sum : Cert.algebraic_KernelIdeal_ReferenceIdeal := by
  intro m ρ m' ρ' _ hx
  refine ⟨RingSum.refOut (m' (((0 : Dev Cert.ReferenceIdeal.nD).tc : Thread _ Cert.ReferenceIdeal.τ).loc Cert.ReferenceIdeal.main_arg0)), ?_, ?_⟩
  · refine (θ_run Cert.KernelIdeal.defs _ _).mono
      (fun _ h c => ⟨(h.1 c (1 : Fin 2)).trans ?_, (h.1 c (0 : Fin 2)).trans (RingSum.arrEnd_rows m ρ c)⟩)
      (RingSum.run_main (F := Ideal) m ρ)
    exact (RingSum.arrEnd_out m ρ c).trans
      (RingSum.outAt_block _ _ (fun d => (RingSum.rows_eq m ρ d).trans (hx d)) c)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernel_ideal, frame_reference, trivial, same_sum⟩

end Cert.Proof

end
